-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37_0) = v0 c
          ∧ r.2.mem ((c.tc : Thread Cert.ReferenceIdeal.nD Cert.ReferenceIdeal.τ).loc Cert.ReferenceIdeal.main_v37_1) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S31x1024x6912 : Shape := ⟨3, ![31, 1024, 6912]⟩
abbrev S16 : Shape := ⟨1, ![16]⟩
abbrev S31744x6912 : Shape := ⟨2, ![31744, 6912]⟩
abbrev S1x16 : Shape := ⟨2, ![1, 16]⟩
abbrev S6912x31744 : Shape := ⟨2, ![6912, 31744]⟩
abbrev S1x1 : Shape := ⟨2, ![1, 1]⟩
abbrev S512x6912 : Shape := ⟨2, ![512, 6912]⟩
abbrev S6912x512 : Shape := ⟨2, ![6912, 512]⟩
abbrev S16x128 : Shape := ⟨2, ![16, 128]⟩
abbrev S1 : Shape := ⟨1, ![1]⟩
abbrev S512x128 : Shape := ⟨2, ![512, 128]⟩
abbrev S32x16x128 : Shape := ⟨3, ![32, 16, 128]⟩
abbrev S128x512 : Shape := ⟨2, ![128, 512]⟩
abbrev S128 : Shape := ⟨1, ![128]⟩
abbrev S1x128 : Shape := ⟨2, ![1, 128]⟩
abbrev S_ : Shape := ⟨0, ![]⟩

abbrev nBuf : Space → Nat
  | .hbm => 10
  | .vmem => 10
  | .smem => 0
  | _ => 0

abbrev bufTy : (tb : Table) → Fin (tcTables nBuf tb) → BufTy
  | .hbm, ⟨0, _⟩ => ⟨S31x1024x6912, .bf16⟩
  | .hbm, ⟨1, _⟩ => ⟨S16, .f32⟩
  | .hbm, ⟨2, _⟩ => ⟨S31744x6912, .bf16⟩
  | .hbm, ⟨3, _⟩ => ⟨S1x16, .f32⟩
  | .hbm, ⟨4, _⟩ => ⟨S31744x6912, .fp8e4m3⟩
  | .hbm, ⟨5, _⟩ => ⟨S6912x31744, .fp8e4m3⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .local _ .vmem, ⟨0, _⟩ => ⟨S1x16, .f32⟩
  | .local _ .vmem, ⟨1, _⟩ => ⟨S512x6912, .bf16⟩
  | .local _ .vmem, ⟨2, _⟩ => ⟨S512x6912, .bf16⟩
  | .local _ .vmem, ⟨3, _⟩ => ⟨S512x6912, .fp8e4m3⟩
  | .local _ .vmem, ⟨4, _⟩ => ⟨S512x6912, .fp8e4m3⟩
  | .local _ .vmem, ⟨5, _⟩ => ⟨S6912x512, .fp8e4m3⟩
  | .local _ .vmem, ⟨6, _⟩ => ⟨S6912x512, .fp8e4m3⟩
  | .local _ .vmem, ⟨7, _⟩ => ⟨S1x1, .f32⟩
  | .local _ .vmem, ⟨8, _⟩ => ⟨S1x1, .f32⟩
  | .local _ .vmem, ⟨9, _⟩ => ⟨S16x128, .bf16⟩
  | _, _ => ⟨S31x1024x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![62], ![false]⟩

@[reducible] def k0_t1_loop : Scf.Loop 32 :=
  let c0_i32_23 : BitVec 32 := 0#32
  let c54_i32 : BitVec 32 := 54#32
  let v110 : BitVec 32 := Scalar.addi c0_i32_23 c54_i32
  let c1_i32_24 : BitVec 32 := 1#32
  ⟨c0_i32_23, v110, c1_i32_24⟩
def k0_mult1 (k0_t1 : Fin k0_t1_loop.trips) : BitVec 32 :=
  let c0_i32_23 : BitVec 32 := 0#32
  let c1_i32_24 : BitVec 32 := 1#32
  let arg8 : BitVec 32 := Scf.iv c0_i32_23 c1_i32_24 k0_t1
  let c128_i32_27 : BitVec 32 := 128#32
  let v114 : BitVec 32 := Scalar.muli arg8 c128_i32_27
  v114
def k0_off1 (k0_t1 : Fin k0_t1_loop.trips) : Fin 2 → Nat :=
  let c0_28 : Index := 0#32
  let c0_i32_23 : BitVec 32 := 0#32
  let c1_i32_24 : BitVec 32 := 1#32
  let arg8 : BitVec 32 := Scf.iv c0_i32_23 c1_i32_24 k0_t1
  let c128_i32_27 : BitVec 32 := 128#32
  let v114 : BitVec 32 := Scalar.muli arg8 c128_i32_27
  let v115 : BitVec 32 := v114
  let v116 : Index := Scalar.indexCast v115
  ![0, v116.toNat]
def k0_off2 (k0_t1 : Fin k0_t1_loop.trips) : Fin 2 → Nat :=
  let c0_i32_23 : BitVec 32 := 0#32
  let c1_i32_24 : BitVec 32 := 1#32
  let arg8 : BitVec 32 := Scf.iv c0_i32_23 c1_i32_24 k0_t1
  let c128_i32_27 : BitVec 32 := 128#32
  let v114 : BitVec 32 := Scalar.muli arg8 c128_i32_27
  let v115 : BitVec 32 := v114
  let v138 : Index := Scalar.indexCast v115
  let c0_37 : Index := 0#32
  ![v138.toNat, 0]
def k0_cond1 (i : grid0.Coords) : BitVec 1 :=
  let arg0 : BitVec 32 := BitVec.ofNat 32 (i 0).val
  let c0_i32_21 : BitVec 32 := 0#32
  let v104 : BitVec 1 := Scalar.cmpi .eq arg0 c0_i32_21
  let v105 : BitVec 32 := Scalar.extui v104
  let c0_i32_22 : BitVec 32 := 0#32
  let v106 : BitVec 1 := Scalar.cmpi .ne v105 c0_i32_22
  v106

def k0_cond2 (i : grid0.Coords) : BitVec 1 :=
  let arg0 : BitVec 32 := BitVec.ofNat 32 (i 0).val
  let c61_i32 : BitVec 32 := 61#32
  let v111 : BitVec 1 := Scalar.cmpi .eq arg0 c61_i32
  let v112 : BitVec 32 := Scalar.extui v111
  let c0_i32_26 : BitVec 32 := 0#32
  let v113 : BitVec 1 := Scalar.cmpi .ne v112 c0_i32_26
  v113

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x6912 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x6912 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6912x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S31x1024x6912 : Shape := ⟨3, ![31, 1024, 6912]⟩
abbrev S16 : Shape := ⟨1, ![16]⟩
abbrev S31744x6912 : Shape := ⟨2, ![31744, 6912]⟩
abbrev S_ : Shape := ⟨0, ![]⟩
abbrev S253 : Shape := ⟨1, ![253]⟩
abbrev S1x1 : Shape := ⟨2, ![1, 1]⟩
abbrev S6912x31744 : Shape := ⟨2, ![6912, 31744]⟩

abbrev nBuf : Space → Nat
  | .hbm => 72
  | .vmem => 4
  | .smem => 0
  | _ => 0

abbrev bufTy : (tb : Table) → Fin (tcTables nBuf tb) → BufTy
  | .hbm, ⟨0, _⟩ => ⟨S31x1024x6912, .bf16⟩
  | .hbm, ⟨1, _⟩ => ⟨S16, .f32⟩
  | .hbm, ⟨2, _⟩ => ⟨S31744x6912, .bf16⟩
  | .hbm, ⟨3, _⟩ => ⟨S31744x6912, .bf16⟩
  | .hbm, ⟨4, _⟩ => ⟨S_, .bf16⟩
  | .hbm, ⟨5, _⟩ => ⟨S_, .bf16⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S253, .f32⟩
  | .hbm, ⟨12, _⟩ => ⟨S_, .f32⟩
  | .hbm, ⟨13, _⟩ => ⟨S253, .f32⟩
  | .hbm, ⟨14, _⟩ => ⟨S253, .f32⟩
  | .hbm, ⟨15, _⟩ => ⟨S_, .f32⟩
  | .hbm, ⟨16, _⟩ => ⟨S_, .f32⟩
  | .hbm, ⟨17, _⟩ => ⟨S253, .f32⟩
  | .hbm, ⟨18, _⟩ => ⟨S253, .f32⟩
  | .hbm, ⟨19, _⟩ => ⟨S253, .f32⟩
  | .hbm, ⟨20, _⟩ => ⟨S253, .i1⟩
  | .hbm, ⟨21, _⟩ => ⟨S_, .f32⟩
  | .hbm, ⟨22, _⟩ => ⟨S_, .f32⟩
  | .hbm, ⟨23, _⟩ => ⟨S253, .f32⟩
  | .hbm, ⟨24, _⟩ => ⟨S253, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .i1⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .i1⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .i1⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1x1, .f32⟩
  | .hbm, ⟨70, _⟩ => ⟨S31744x6912, .fp8e4m3⟩
  | .hbm, ⟨71, _⟩ => ⟨S6912x31744, .fp8e4m3⟩
  | .local _ .vmem, ⟨0, _⟩ => ⟨S31744x6912, .bf16⟩
  | .local _ .vmem, ⟨1, _⟩ => ⟨S1x1, .f32⟩
  | .local _ .vmem, ⟨2, _⟩ => ⟨S31744x6912, .fp8e4m3⟩
  | .local _ .vmem, ⟨3, _⟩ => ⟨S6912x31744, .fp8e4m3⟩
  | _, _ => ⟨S31x1024x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_cst_7 : Ref sig .tc := ⟨.hbm, 31, rfl⟩
abbrev main_cst_8 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_9 : Ref sig .tc := ⟨.hbm, 36, rfl⟩
abbrev main_call1_v0 : Ref sig .tc := ⟨.hbm, 37, rfl⟩
abbrev main_v22 : Ref sig .tc := ⟨.hbm, 38, rfl⟩
abbrev main_cst_10 : Ref sig .tc := ⟨.hbm, 39, rfl⟩
abbrev main_v23 : Ref sig .tc := ⟨.hbm, 40, rfl⟩
abbrev main_cst_11 : Ref sig .tc := ⟨.hbm, 41, rfl⟩
abbrev main_call2_v0 : Ref sig .tc := ⟨.hbm, 42, rfl⟩
abbrev main_v24 : Ref sig .tc := ⟨.hbm, 43, rfl⟩
abbrev main_cst_12 : Ref sig .tc := ⟨.hbm, 44, rfl⟩
abbrev main_v25 : Ref sig .tc := ⟨.hbm, 45, rfl⟩
abbrev main_cst_13 : Ref sig .tc := ⟨.hbm, 46, rfl⟩
abbrev main_v26 : Ref sig .tc := ⟨.hbm, 47, rfl⟩
abbrev main_cst_14 : Ref sig .tc := ⟨.hbm, 48, rfl⟩
abbrev main_v27 : Ref sig .tc := ⟨.hbm, 49, rfl⟩
abbrev main_cst_15 : Ref sig .tc := ⟨.hbm, 50, rfl⟩
abbrev main_call3_v0 : Ref sig .tc := ⟨.hbm, 51, rfl⟩
abbrev main_v28 : Ref sig .tc := ⟨.hbm, 52, rfl⟩
abbrev main_cst_16 : Ref sig .tc := ⟨.hbm, 53, rfl⟩
abbrev main_call4_v0 : Ref sig .tc := ⟨.hbm, 54, rfl⟩
abbrev main_v29 : Ref sig .tc := ⟨.hbm, 55, rfl⟩
abbrev main_v30 : Ref sig .tc := ⟨.hbm, 56, rfl⟩
abbrev main_cst_17 : Ref sig .tc := ⟨.hbm, 57, rfl⟩
abbrev main_v31 : Ref sig .tc := ⟨.hbm, 58, rfl⟩
abbrev main_cst_18 : Ref sig .tc := ⟨.hbm, 59, rfl⟩
abbrev main_v32 : Ref sig .tc := ⟨.hbm, 60, rfl⟩
abbrev main_cst_19 : Ref sig .tc := ⟨.hbm, 61, rfl⟩
abbrev main_v33 : Ref sig .tc := ⟨.hbm, 62, rfl⟩
abbrev main_cst_20 : Ref sig .tc := ⟨.hbm, 63, rfl⟩
abbrev main_call5_v0 : Ref sig .tc := ⟨.hbm, 64, rfl⟩
abbrev main_v34 : Ref sig .tc := ⟨.hbm, 65, rfl⟩
abbrev main_cst_21 : Ref sig .tc := ⟨.hbm, 66, rfl⟩
abbrev main_call6_v0 : Ref sig .tc := ⟨.hbm, 67, rfl⟩
abbrev main_v35 : Ref sig .tc := ⟨.hbm, 68, rfl⟩
abbrev main_v36 : Ref sig .tc := ⟨.hbm, 69, rfl⟩
abbrev main_v37_0 : Ref sig .tc := ⟨.hbm, 70, rfl⟩
abbrev main_v37_1 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S31744x6912 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S31744x6912 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6912x31744 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KStrips.lean ====
/-
  What one trip of the kernel's loop over lane strips, and the whole loop of 54 trips, leave in the buffers they store into.
  The generated loop invariant states the loop's effect as a list of pieces written; this file reads that list back:
  the two code buffers hold the codes of every strip already visited, and the running block of magnitudes holds the fold
  of the strips.
-/
module

public import proofs.«01_k».proof.Proof.Gen.Kernel.Frame
public import proofs.«01_k».proof.Proof.Gen.Kernel.Loops
public import Idealize.ShloMosaic.Lib.WritesUnit
public import Idealize.ShloMosaic.Lib.ValueIdxCore
public import Idealize.ShloMosaic.Lib.ValueLayout
public import Idealize.ShloMosaic.Lib.Pipeline.Value
public import Idealize.ShloMosaic.Lib.Pipeline.ValueKit.Tiles

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.ProofMode Idealize.SL.Sem
open Idealize.ShloMosaic.ValueIdx

variable {F : FTy → Type} [FloatOps F]

theorem hz : (![0, 0] : Fin 2 → Nat) = fun _ => 0 := funext fun a => by fin_cases a <;> rfl

/-! ## The values, as plain functions -/

/-- The reciprocal of the scale the kernel multiplies by, from the scale's exponent `e`: the number whose exponent field
    is `127 - e`, clipped to `[0, 255]`. -/
def invOf (e : IVec S1x1 32) : FVec F S1x1 .f32 :=
  bitcastToFloat .f32 (shli (minsi (broadcast S1x1 255#32) (maxsi (broadcast S1x1 0#32)
    (addi (subi (broadcast S1x1 0#32) e) (broadcast S1x1 127#32)))) (broadcast S1x1 23#32))

/-- One entry's code: the entry times the reciprocal, clipped to ±448, in the eight-bit format. -/
def code (s : FVec F S1x1 .f32) (a : F .bf16) : F .fp8e4m3 :=
  (truncf .fp8e4m3 (minimumf (broadcast S1x1 (Scalar.truncf .bf16 bitsLt_bf16_f32 (Scalar.ofBits .f32 0x43E00000#32 : F .f32)))
    (maximumf (broadcast S1x1 (Scalar.truncf .bf16 bitsLt_bf16_f32 (Scalar.ofBits .f32 0xC3E00000#32 : F .f32)))
      (mulf (broadcast S1x1 a) (truncf .bf16 s bitsLt_bf16_f32)))) bitsLt_fp8e4m3_bf16 : FVec F S1x1 .fp8e4m3) (ix2 0 0)

/-- The codes of a block of 512 rows. -/
def codesOf (e : IVec S1x1 32) (x : Vec F S512x6912 .bf16) : Vec F S512x6912 .fp8e4m3 := fun y => code (invOf e) (x y)

/-- The same codes, transposed. -/
def codesTOf (e : IVec S1x1 32) (x : Vec F S512x6912 .bf16) : Vec F S6912x512 .fp8e4m3 :=
  fun y => code (invOf e) (x (ix2 (y 1) (y 0)))

/-- The `k`-th strip of 128 lanes of a block. -/
def strip (x : Vec F S512x6912 .bf16) (k : ℕ) : Vec F S512x128 .bf16 :=
  fun y => x (ix2 (y 0) ⟨(128 * k + (y 1).val) % 6912, Nat.mod_lt _ (by decide)⟩)

/-- The running block of magnitudes after `k` strips of the block `x`, from the block `acc` before them. -/
def accFold (x : Vec F S512x6912 .bf16) (acc : Vec F S16x128 .bf16) : ℕ → Vec F S16x128 .bf16
  | 0 => acc
  | k + 1 => k0_pay4 (strip x k) (accFold x acc k)

/-- A one-entry vector broadcast to a strip reads its entry everywhere. -/
theorem broadcastTo_one (v : FVec F S1x1 .f32) :
    broadcastTo S512x128 v broadcasts_S1x1_S512x128 = broadcast S512x128 (v (ix2 0 0)) :=
  funext fun j => broadcastTo_apply _ _ j (ix2 0 0) fun a => match a with | ⟨0, _⟩ => rfl | ⟨1, _⟩ => rfl

theorem pay5_apply (e : IVec S1x1 32) (v : Vec F S512x128 .bf16) (y : S512x128.Idx) :
    k0_pay5 e v y = code (invOf e) (v y) := by
  unfold k0_pay5 k0_pay3 code
  simp only [shapeCast_self]
  rw [broadcastTo_one]
  unfold invOf
  simp only [truncf, minimumf, maximumf, mulf, broadcast]

theorem pay6_apply (e : IVec S1x1 32) (v : Vec F S512x128 .bf16) (y : S128x512.Idx) :
    k0_pay6 e v y = code (invOf e) (v (ix2 (y 1) (y 0))) := by
  unfold k0_pay6
  rw [← pay5_apply]
  obtain ⟨j, i, rfl⟩ : ∃ j i, y = ix2 j i := ⟨y 0, y 1, eq_ix2 y⟩
  exact transpose_ix2_apply _ _ j i

/-! ## The offsets, as numbers -/

theorem trips_le : k0_t1_loop.trips ≤ 54 := k0_t1_abs.2.1
theorem trips_eq : k0_t1_loop.trips = 54 := by decide +kernel

theorem off_num : ∀ k : Fin 54, (Scalar.indexCast (Scalar.muli (Scf.iv 0#32 1#32 k.val) 128#32 : BitVec 32) : Index).toNat = 128 * k.val := by
  decide +kernel

theorem off1_eq (k : Fin k0_t1_loop.trips) : k0_off1 k = ![0, 128 * k.val] := by
  have h := off_num ⟨k.val, Nat.lt_of_lt_of_le k.isLt trips_le⟩
  unfold k0_off1
  dsimp only at h ⊢
  rw [h]

theorem off2_eq (k : Fin k0_t1_loop.trips) : k0_off2 k = ![128 * k.val, 0] := by
  have h := off_num ⟨k.val, Nat.lt_of_lt_of_le k.isLt trips_le⟩
  unfold k0_off2
  dsimp only at h ⊢
  rw [h]

/-- What trip `k` loads of the block is its strip `k`. -/
theorem ld_strip (x : Vec F S512x6912 .bf16) (k : Fin k0_t1_loop.trips) :
    (View.ld x (Rect.unit (s := S512x6912) (k0_off1 k) S512x128.size (k0_off1_inb k)) : Vec F S512x128 .bf16) = strip x k.val := by
  have hk : k.val < 54 := Nat.lt_of_lt_of_le k.isLt trips_le
  funext y
  refine View.ld_unit_apply_of _ _ _ _ _ _ fun a => ?_
  refine Eq.trans ?_ (congrArg (fun o : Fin 2 → Nat => o a + (y a).val) (off1_eq k)).symm
  have h1 : (y 1).val < 128 := (y 1).isLt
  match a with
  | ⟨0, _⟩ => show (y 0).val = 0 + (y 0).val; omega
  | ⟨1, _⟩ => show (128 * k.val + (y 1).val) % 6912 = 128 * k.val + (y 1).val; rw [Nat.mod_eq_of_lt (by omega)]

/-! ## One trip -/

section Loop

variable (𝒱 : Variants) (c : Dev nD) (bd : Option 𝒱.V) (i : grid0.Coords) (arg1 : Memref sig .tc .vmem S1x16 .f32) (harg1 : arg1.IsWhole) (arg2 : Memref sig .tc .vmem S512x6912 .bf16) (harg2 : arg2.IsWhole) (arg3 : Memref sig .tc .vmem S512x6912 .fp8e4m3) (harg3 : arg3.IsWhole) (arg4 : Memref sig .tc .vmem S6912x512 .fp8e4m3) (harg4 : arg4.IsWhole) (arg5 : Memref sig .tc .vmem S1x1 .f32) (harg5 : arg5.IsWhole) (arg6 : Memref sig .tc .vmem S1x1 .f32) (harg6 : arg6.IsWhole) (arg7 : Memref sig .tc .vmem S16x128 .bf16) (harg7 : arg7.IsWhole) (v83 : IVec S1x1 32)

theorem tripL_eq (X_arg2 : BufTy.Contents (Elt F) arg2.view.ty) (k : Fin k0_t1_loop.trips) (f_arg3 : BufTy.Contents (Elt F) arg3.view.ty)
    (f_arg4 : BufTy.Contents (Elt F) arg4.view.ty) (f_arg7 : BufTy.Contents (Elt F) arg7.view.ty) :
    tripL_k0_t1 (F := F) 𝒱 c bd i arg1 harg1 arg2 harg2 arg3 harg3 arg4 harg4 arg5 harg5 arg6 harg6 arg7 harg7 v83 X_arg2 k f_arg3 f_arg4 f_arg7
      = ([⟨Rect.unit (s := S512x6912) (k0_off1 k) S512x128.size (k0_off1_inb k), k0_pay5 v83 (strip (arg2.view.read (Elt F) X_arg2) k.val)⟩],
         [⟨Rect.unit (s := S6912x512) (k0_off2 k) S128x512.size (k0_off2_inb k), k0_pay6 v83 (strip (arg2.view.read (Elt F) X_arg2) k.val)⟩],
         [⟨Rect.unit (s := S16x128) ![0, 0] S16x128.size inb_S16x128_S16x128_0_0, k0_pay4 (strip (arg2.view.read (Elt F) X_arg2) k.val) (arg7.view.read (Elt F) f_arg7)⟩]) := by
  rw [← ld_strip, ← View.ld_unit_zero (S := S16x128) hz inb_S16x128_S16x128_0_0 (arg7.view.read (Elt F) f_arg7)]
  unfold tripL_k0_t1 trip_k0_t1
  dsimp only
  sl_unfold_words
  rfl

/-! ## The trips so far -/

variable (X_arg2 : BufTy.Contents (Elt F) arg2.view.ty) (G_arg3 : BufTy.Contents (Elt F) arg3.view.ty) (G_arg4 : BufTy.Contents (Elt F) arg4.view.ty) (G_arg7 : BufTy.Contents (Elt F) arg7.view.ty)

/-- The running block of magnitudes before trip `k`. -/
theorem read_pb7 : ∀ k, k ≤ k0_t1_loop.trips →
    arg7.view.read (Elt F) (arg7.view.writes (Elt F) G_arg7 (pb_k0_t1 (F := F) 𝒱 c bd i arg1 harg1 arg2 harg2 arg3 harg3 arg4 harg4 arg5 harg5 arg6 harg6 arg7 harg7 v83 X_arg2 G_arg3 G_arg4 G_arg7 k).2.2)
      = accFold (arg2.view.read (Elt F) X_arg2) (arg7.view.read (Elt F) G_arg7) k
  | 0, _ => rfl
  | k + 1, hk => by
    have ih := read_pb7 k (by omega)
    have h := pb_k0_t1_succ (F := F) 𝒱 c bd i arg1 harg1 arg2 harg2 arg3 harg3 arg4 harg4 arg5 harg5 arg6 harg6 arg7 harg7 v83 X_arg2 G_arg3 G_arg4 G_arg7 ⟨k, hk⟩
    rw [tripL_eq] at h
    dsimp only at h
    rw [h]
    dsimp only
    rw [List.singleton_append]
    funext y
    refine (View.read_writes_cons_unit_of_mem _ _ _ _ _ y y hz (fun a => (Nat.zero_add _).symm)).trans ?_
    rw [ih]
    rfl

/-- The codes stored before trip `k`: every lane of the strips before it. -/
theorem read_pb3 : ∀ k, k ≤ k0_t1_loop.trips → ∀ y : S512x6912.Idx, (y 1).val < 128 * k →
    arg3.view.read (Elt F) (arg3.view.writes (Elt F) G_arg3 (pb_k0_t1 (F := F) 𝒱 c bd i arg1 harg1 arg2 harg2 arg3 harg3 arg4 harg4 arg5 harg5 arg6 harg6 arg7 harg7 v83 X_arg2 G_arg3 G_arg4 G_arg7 k).1) y
      = codesOf v83 (arg2.view.read (Elt F) X_arg2) y
  | 0, _, y, hy => absurd hy (by omega)
  | k + 1, hk, y, hy => by
    have h := pb_k0_t1_succ (F := F) 𝒱 c bd i arg1 harg1 arg2 harg2 arg3 harg3 arg4 harg4 arg5 harg5 arg6 harg6 arg7 harg7 v83 X_arg2 G_arg3 G_arg4 G_arg7 ⟨k, hk⟩
    have h54 := trips_le
    rw [tripL_eq] at h
    dsimp only at h
    rw [h]
    dsimp only
    rw [List.singleton_append]
    by_cases hlt : (y 1).val < 128 * k
    · rw [View.read_writes_cons_unit_of_not_mem _ _ _ _ _ y (off1_eq ⟨k, hk⟩) 1 (Or.inl hlt)]
      exact read_pb3 k (by omega) y hlt
    · have h0 : (y 0).val < 512 := (y 0).isLt
      refine (View.read_writes_cons_unit_of_mem _ _ _ _ _ y (ix2 (y 0) ⟨(y 1).val - 128 * k, by omega⟩ : S512x128.Idx) (off1_eq ⟨k, hk⟩) (fun a => by
        match a with
        | ⟨0, _⟩ => exact (Nat.zero_add _).symm
        | ⟨1, _⟩ => show (y 1).val = 128 * k + ((y 1).val - 128 * k); omega)).trans ?_
      rw [pay5_apply]
      show code (invOf v83) (arg2.view.read (Elt F) X_arg2 _) = code (invOf v83) (arg2.view.read (Elt F) X_arg2 y)
      refine congrArg (fun z => code (invOf v83) (arg2.view.read (Elt F) X_arg2 z)) (funext fun a => Fin.ext ?_)
      have h1 : (y 1).val < 6912 := (y 1).isLt
      match a with
      | ⟨0, _⟩ => rfl
      | ⟨1, _⟩ => show (128 * k + ((y 1).val - 128 * k)) % 6912 = (y 1).val; rw [Nat.mod_eq_of_lt (by omega)]; omega

/-- The transposed codes stored before trip `k`. -/
theorem read_pb4 : ∀ k, k ≤ k0_t1_loop.trips → ∀ y : S6912x512.Idx, (y 0).val < 128 * k →
    arg4.view.read (Elt F) (arg4.view.writes (Elt F) G_arg4 (pb_k0_t1 (F := F) 𝒱 c bd i arg1 harg1 arg2 harg2 arg3 harg3 arg4 harg4 arg5 harg5 arg6 harg6 arg7 harg7 v83 X_arg2 G_arg3 G_arg4 G_arg7 k).2.1) y
      = codesTOf v83 (arg2.view.read (Elt F) X_arg2) y
  | 0, _, y, hy => absurd hy (by omega)
  | k + 1, hk, y, hy => by
    have h := pb_k0_t1_succ (F := F) 𝒱 c bd i arg1 harg1 arg2 harg2 arg3 harg3 arg4 harg4 arg5 harg5 arg6 harg6 arg7 harg7 v83 X_arg2 G_arg3 G_arg4 G_arg7 ⟨k, hk⟩
    have h54 := trips_le
    rw [tripL_eq] at h
    dsimp only at h
    rw [h]
    dsimp only
    rw [List.singleton_append]
    by_cases hlt : (y 0).val < 128 * k
    · rw [View.read_writes_cons_unit_of_not_mem _ _ _ _ _ y (off2_eq ⟨k, hk⟩) 0 (Or.inl hlt)]
      exact read_pb4 k (by omega) y hlt
    · refine (View.read_writes_cons_unit_of_mem _ _ _ _ _ y (ix2 ⟨(y 0).val - 128 * k, by omega⟩ (y 1) : S128x512.Idx) (off2_eq ⟨k, hk⟩) (fun a => by
        match a with
        | ⟨0, _⟩ => show (y 0).val = 128 * k + ((y 0).val - 128 * k); omega
        | ⟨1, _⟩ => exact (Nat.zero_add _).symm)).trans ?_
      rw [pay6_apply]
      show code (invOf v83) (arg2.view.read (Elt F) X_arg2 _) = code (invOf v83) (arg2.view.read (Elt F) X_arg2 _)
      refine congrArg (fun z => code (invOf v83) (arg2.view.read (Elt F) X_arg2 z)) (funext fun a => Fin.ext ?_)
      have h1 : (y 0).val < 6912 := (y 0).isLt
      match a with
      | ⟨0, _⟩ => rfl
      | ⟨1, _⟩ => show (128 * k + ((y 0).val - 128 * k)) % 6912 = (y 0).val; rw [Nat.mod_eq_of_lt (by omega)]; omega

/-! ## The whole loop -/

theorem read_loop3 : arg3.view.read (Elt F) (arg3.view.writes (Elt F) G_arg3 (pb_k0_t1 (F := F) 𝒱 c bd i arg1 harg1 arg2 harg2 arg3 harg3 arg4 harg4 arg5 harg5 arg6 harg6 arg7 harg7 v83 X_arg2 G_arg3 G_arg4 G_arg7 k0_t1_loop.trips).1)
      = codesOf v83 (arg2.view.read (Elt F) X_arg2) :=
  funext fun y => read_pb3 𝒱 c bd i arg1 harg1 arg2 harg2 arg3 harg3 arg4 harg4 arg5 harg5 arg6 harg6 arg7 harg7 v83 X_arg2 G_arg3 G_arg4 G_arg7 _ le_rfl y (by rw [trips_eq]; exact (y 1).isLt)

theorem read_loop4 : arg4.view.read (Elt F) (arg4.view.writes (Elt F) G_arg4 (pb_k0_t1 (F := F) 𝒱 c bd i arg1 harg1 arg2 harg2 arg3 harg3 arg4 harg4 arg5 harg5 arg6 harg6 arg7 harg7 v83 X_arg2 G_arg3 G_arg4 G_arg7 k0_t1_loop.trips).2.1)
      = codesTOf v83 (arg2.view.read (Elt F) X_arg2) :=
  funext fun y => read_pb4 𝒱 c bd i arg1 harg1 arg2 harg2 arg3 harg3 arg4 harg4 arg5 harg5 arg6 harg6 arg7 harg7 v83 X_arg2 G_arg3 G_arg4 G_arg7 _ le_rfl y (by rw [trips_eq]; exact (y 0).isLt)

theorem read_loop7 : arg7.view.read (Elt F) (arg7.view.writes (Elt F) G_arg7 (pb_k0_t1 (F := F) 𝒱 c bd i arg1 harg1 arg2 harg2 arg3 harg3 arg4 harg4 arg5 harg5 arg6 harg6 arg7 harg7 v83 X_arg2 G_arg3 G_arg4 G_arg7 k0_t1_loop.trips).2.2)
      = accFold (arg2.view.read (Elt F) X_arg2) (arg7.view.read (Elt F) G_arg7) 54 := by
  rw [read_pb7 𝒱 c bd i arg1 harg1 arg2 harg2 arg3 harg3 arg4 harg4 arg5 harg5 arg6 harg6 arg7 harg7 v83 X_arg2 G_arg3 G_arg4 G_arg7 _ le_rfl, trips_eq]

end Loop

end Cert.Kernel.Hand

end
-- ==== Proof.KBody.lean ====
/-
  What the kernel's body leaves at one grid point, in the three cases of its two conditionals: the first point (the scale is
  stored and the running block of magnitudes starts at zero), a middle point, and the last point (the largest magnitude is
  stored). Each is a triple over any whole staging buffers, its results plain functions of the history and of the block.
-/
module

public import proofs.«01_k».proof.Proof.KStrips

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The exponent of the scale, from the history of magnitudes. -/
def expOf (h : Vec F S1x16 .f32) : IVec S1x1 32 := k0_pay13 (k0_pay8 h) (k0_pay9 h) (k0_pay10 h) (k0_pay11 h) (k0_pay12 h)

/-- The scale, from the history of magnitudes. -/
def scaleOf (h : Vec F S1x16 .f32) : Vec F S1x1 .f32 :=
  k0_pay1 (k0_pay14 (k0_pay8 h) (k0_pay9 h) (k0_pay10 h) (k0_pay11 h) (k0_pay12 h)) k0_pay15

/-- A store through the whole shape at offset zero leaves its payload. -/
theorem read_whole7 (v : View sig .tc .vmem S16x128 .bf16) (f : v.ty.Contents (Elt F)) (w : Vec F S16x128 .bf16) :
    v.read (Elt F) (v.writes (Elt F) f [⟨Rect.unit (s := S16x128) ![0, 0] S16x128.size inb_S16x128_S16x128_0_0, w⟩]) = w :=
  funext fun y => View.read_writes_cons_unit_of_mem _ _ _ _ _ y y hz (fun a => (Nat.zero_add _).symm)
theorem read_whole1 (v : View sig .tc .vmem S1x1 .f32) (f : v.ty.Contents (Elt F)) (w : Vec F S1x1 .f32) :
    v.read (Elt F) (v.writes (Elt F) f [⟨Rect.unit (s := S1x1) ![0, 0] S1x1.size inb_S1x1_S1x1_0_0, w⟩]) = w :=
  funext fun y => View.read_writes_cons_unit_of_mem _ _ _ _ _ y y hz (fun a => (Nat.zero_add _).symm)

set_option maxHeartbeats 4000000 in
/-- The first point. -/
theorem body_A (c : Dev nD) (i : grid0.Coords) (arg1 : Memref sig .tc .vmem S1x16 .f32) (harg1 : arg1.IsWhole) (arg2 : Memref sig .tc .vmem S512x6912 .bf16) (harg2 : arg2.IsWhole) (arg3 : Memref sig .tc .vmem S512x6912 .fp8e4m3) (harg3 : arg3.IsWhole) (arg4 : Memref sig .tc .vmem S6912x512 .fp8e4m3) (harg4 : arg4.IsWhole) (arg5 : Memref sig .tc .vmem S1x1 .f32) (harg5 : arg5.IsWhole) (arg6 : Memref sig .tc .vmem S1x1 .f32) (harg6 : arg6.IsWhole) (arg7 : Memref sig .tc .vmem S16x128 .bf16) (harg7 : arg7.IsWhole)
    (hc0 : k0_cond1 i = 1#1) (hc1 : ¬k0_cond2 i = 1#1) (x0 : Vec F S1x16 .f32) (x1 : Vec F S512x6912 .bf16) (d5 d6 : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare d5 ∗ owns (c : Thread nD τ) arg6 fullShare d6 ∗ (∃ d, owns (c : Thread nD τ) arg7 fullShare d)
        ∗ (iprop(owns (c : Thread nD τ) arg1 fullShare x0 ∗ owns (c : Thread nD τ) arg2 fullShare x1 ∗ owns (c : Thread nD τ) arg3 fullShare (codesOf (expOf x0) x1) ∗ owns (c : Thread nD τ) arg4 fullShare (codesTOf (expOf x0) x1) ∗ owns (c : Thread nD τ) arg5 fullShare (scaleOf x0) ∗ owns (c : Thread nD τ) arg6 fullShare d6 ∗ owns (c : Thread nD τ) arg7 fullShare (accFold x1 k0_pay2 54)) -∗ K ⟨⟩))
      ⊢ wp frame (wpE (defs₀ (F := F)) Variants.none c none) E (cc0_cast_transpose i arg1 harg1 arg2 harg2 arg3 harg3 arg4 harg4 arg5 harg5 arg6 harg6 arg7 harg7) K := by
  simp only [cc0_cast_transpose_eq_skeleton]; unfold cc0_cast_transpose_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%ds0, %fs0, -, HS0⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact (read_loop3 ..).trans (congrArg₂ codesOf (by sl_unfold_words; unfold expOf; simp only [View.readAt_eq_ld, harg1.read_unread, View.ld_unit_zero (S := S1x16) hz]) (harg2.read_unread _))
  isplitl [H3]
  · iexists _; isplitr; swap; · iexact H3
    ipureintro
    exact (read_loop4 ..).trans (congrArg₂ codesTOf (by sl_unfold_words; unfold expOf; simp only [View.readAt_eq_ld, harg1.read_unread, View.ld_unit_zero (S := S1x16) hz]) (harg2.read_unread _))
  isplitl [H4]
  · iexists _; isplitr; swap; · iexact H4
    ipureintro
    sl_unfold_words
    refine (read_whole1 ..).trans ?_
    unfold scaleOf
    simp only [View.readAt_eq_ld, harg1.read_unread, View.ld_unit_zero (S := S1x16) hz]
  isplitl [H5]
  · iexists _; isplitr; swap; · iexact H5
    ipureintro
    exact hf5
  iexists _; isplitr; swap; · iexact HS0
  ipureintro
  rw [View.writes_append]
  exact (read_loop7 ..).trans (congrArg₂ (fun x a => accFold x a 54) (harg2.read_unread _) (by sl_unfold_words; exact read_whole7 ..))

set_option maxHeartbeats 4000000 in
/-- A middle point. -/
theorem body_B (c : Dev nD) (i : grid0.Coords) (arg1 : Memref sig .tc .vmem S1x16 .f32) (harg1 : arg1.IsWhole) (arg2 : Memref sig .tc .vmem S512x6912 .bf16) (harg2 : arg2.IsWhole) (arg3 : Memref sig .tc .vmem S512x6912 .fp8e4m3) (harg3 : arg3.IsWhole) (arg4 : Memref sig .tc .vmem S6912x512 .fp8e4m3) (harg4 : arg4.IsWhole) (arg5 : Memref sig .tc .vmem S1x1 .f32) (harg5 : arg5.IsWhole) (arg6 : Memref sig .tc .vmem S1x1 .f32) (harg6 : arg6.IsWhole) (arg7 : Memref sig .tc .vmem S16x128 .bf16) (harg7 : arg7.IsWhole)
    (hc0 : ¬k0_cond1 i = 1#1) (hc1 : ¬k0_cond2 i = 1#1) (x0 : Vec F S1x16 .f32) (x1 : Vec F S512x6912 .bf16) (d5 d6 : Vec F S1x1 .f32) (xs0 : Vec F S16x128 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare d5 ∗ owns (c : Thread nD τ) arg6 fullShare d6 ∗ owns (c : Thread nD τ) arg7 fullShare xs0
        ∗ (iprop(owns (c : Thread nD τ) arg1 fullShare x0 ∗ owns (c : Thread nD τ) arg2 fullShare x1 ∗ owns (c : Thread nD τ) arg3 fullShare (codesOf (expOf x0) x1) ∗ owns (c : Thread nD τ) arg4 fullShare (codesTOf (expOf x0) x1) ∗ owns (c : Thread nD τ) arg5 fullShare d5 ∗ owns (c : Thread nD τ) arg6 fullShare d6 ∗ owns (c : Thread nD τ) arg7 fullShare (accFold x1 xs0 54)) -∗ K ⟨⟩))
      ⊢ wp frame (wpE (defs₀ (F := F)) Variants.none c none) E (cc0_cast_transpose i arg1 harg1 arg2 harg2 arg3 harg3 arg4 harg4 arg5 harg5 arg6 harg6 arg7 harg7) K := by
  simp only [cc0_cast_transpose_eq_skeleton]; unfold cc0_cast_transpose_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%fs0, %hfs0, HS0⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact (read_loop3 ..).trans (congrArg₂ codesOf (by sl_unfold_words; unfold expOf; simp only [View.readAt_eq_ld, harg1.read_unread, View.ld_unit_zero (S := S1x16) hz]) (harg2.read_unread _))
  isplitl [H3]
  · iexists _; isplitr; swap; · iexact H3
    ipureintro
    exact (read_loop4 ..).trans (congrArg₂ codesTOf (by sl_unfold_words; unfold expOf; simp only [View.readAt_eq_ld, harg1.read_unread, View.ld_unit_zero (S := S1x16) hz]) (harg2.read_unread _))
  isplitl [H4]
  · iexists _; isplitr; swap; · iexact H4
    ipureintro
    exact hf4
  isplitl [H5]
  · iexists _; isplitr; swap; · iexact H5
    ipureintro
    exact hf5
  iexists _; isplitr; swap; · iexact HS0
  ipureintro
  exact (read_loop7 ..).trans (congrArg₂ (fun x a => accFold x a 54) (harg2.read_unread _) hfs0)

set_option maxHeartbeats 4000000 in
/-- The last point. -/
theorem body_C (c : Dev nD) (i : grid0.Coords) (arg1 : Memref sig .tc .vmem S1x16 .f32) (harg1 : arg1.IsWhole) (arg2 : Memref sig .tc .vmem S512x6912 .bf16) (harg2 : arg2.IsWhole) (arg3 : Memref sig .tc .vmem S512x6912 .fp8e4m3) (harg3 : arg3.IsWhole) (arg4 : Memref sig .tc .vmem S6912x512 .fp8e4m3) (harg4 : arg4.IsWhole) (arg5 : Memref sig .tc .vmem S1x1 .f32) (harg5 : arg5.IsWhole) (arg6 : Memref sig .tc .vmem S1x1 .f32) (harg6 : arg6.IsWhole) (arg7 : Memref sig .tc .vmem S16x128 .bf16) (harg7 : arg7.IsWhole)
    (hc0 : ¬k0_cond1 i = 1#1) (hc1 : k0_cond2 i = 1#1) (x0 : Vec F S1x16 .f32) (x1 : Vec F S512x6912 .bf16) (d5 d6 : Vec F S1x1 .f32) (xs0 : Vec F S16x128 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare d5 ∗ owns (c : Thread nD τ) arg6 fullShare d6 ∗ owns (c : Thread nD τ) arg7 fullShare xs0
        ∗ (iprop(owns (c : Thread nD τ) arg1 fullShare x0 ∗ owns (c : Thread nD τ) arg2 fullShare x1 ∗ owns (c : Thread nD τ) arg3 fullShare (codesOf (expOf x0) x1) ∗ owns (c : Thread nD τ) arg4 fullShare (codesTOf (expOf x0) x1) ∗ owns (c : Thread nD τ) arg5 fullShare d5 ∗ owns (c : Thread nD τ) arg6 fullShare (k0_pay7 (accFold x1 xs0 54)) ∗ owns (c : Thread nD τ) arg7 fullShare (accFold x1 xs0 54)) -∗ K ⟨⟩))
      ⊢ wp frame (wpE (defs₀ (F := F)) Variants.none c none) E (cc0_cast_transpose i arg1 harg1 arg2 harg2 arg3 harg3 arg4 harg4 arg5 harg5 arg6 harg6 arg7 harg7) K := by
  simp only [cc0_cast_transpose_eq_skeleton]; unfold cc0_cast_transpose_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%fs0, %hfs0, HS0⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact (read_loop3 ..).trans (congrArg₂ codesOf (by sl_unfold_words; unfold expOf; simp only [View.readAt_eq_ld, harg1.read_unread, View.ld_unit_zero (S := S1x16) hz]) (harg2.read_unread _))
  isplitl [H3]
  · iexists _; isplitr; swap; · iexact H3
    ipureintro
    exact (read_loop4 ..).trans (congrArg₂ codesTOf (by sl_unfold_words; unfold expOf; simp only [View.readAt_eq_ld, harg1.read_unread, View.ld_unit_zero (S := S1x16) hz]) (harg2.read_unread _))
  isplitl [H4]
  · iexists _; isplitr; swap; · iexact H4
    ipureintro
    exact hf4
  isplitl [H5]
  · iexists _; isplitr; swap; · iexact H5
    ipureintro
    refine (read_whole1 ..).trans (congrArg k0_pay7 ?_)
    sl_unfold_words
    rw [View.readAt_eq_ld]
    refine (View.ld_unit_zero (S := S16x128) hz _ _).trans ?_
    exact (read_loop7 ..).trans (congrArg₂ (fun x a => accFold x a 54) (harg2.read_unread _) hfs0)
  iexists _; isplitr; swap; · iexact HS0
  ipureintro
  exact (read_loop7 ..).trans (congrArg₂ (fun x a => accFold x a 54) (harg2.read_unread _) hfs0)

end Cert.Kernel.Hand

end
-- ==== Proof.KRun.lean ====
/-
  The kernel's run: the body at every grid point leaves the codes of its block, the scale, the running block of magnitudes
  and, at the last point, the largest magnitude; from any memory with zero counters the run ends with every result array
  at what the points wrote back and with the arguments unchanged.
-/
module

public import proofs.«01_k».proof.Proof.KBody
public import Idealize.ShloMosaic.Lib.Pipeline.FrameBody
public import Idealize.ShloMosaic.Lib.Pipeline.FrameSuffix
public import Idealize.ShloMosaic.Lib.WordCmp
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the conditionals are taken -/

theorem cond1_iff : ∀ t : Fin cfg0.N, k0_cond1 (grid0.coords t) = 1#1 ↔ t.val = 0 :=
  (fun t => by
    have ht : t.val < 62 := Nat.lt_of_lt_of_eq t.isLt N_0
    have e0 : (grid0.coords t 0).val = t.val / 1 % 62 := Pipeline.Grid.coords_val t 0 (by decide) rfl
    simp only [k0_cond1, e0]
    word_cmp
   : ∀ t : Fin grid0.N, k0_cond1 (grid0.coords t) = 1#1 ↔ t.val = 0)

theorem cond2_iff : ∀ t : Fin cfg0.N, k0_cond2 (grid0.coords t) = 1#1 ↔ t.val = 61 :=
  (fun t => by
    have ht : t.val < 62 := Nat.lt_of_lt_of_eq t.isLt N_0
    have e0 : (grid0.coords t 0).val = t.val / 1 % 62 := Pipeline.Grid.coords_val t 0 (by decide) rfl
    simp only [k0_cond2, e0]
    word_cmp
   : ∀ t : Fin grid0.N, k0_cond2 (grid0.coords t) = 1#1 ↔ t.val = 61)

theorem idle4_false (t : Fin cfg0.N) (h : t.val = 0) : cfg0.idle 4 (cfg0.grid.coords t) = false := by
  show (!(k0_cond1 (grid0.coords t) == 1#1)) = false
  rw [(cond1_iff t).mpr h]; rfl
theorem idle4_true (t : Fin cfg0.N) (h : t.val ≠ 0) : cfg0.idle 4 (cfg0.grid.coords t) = true := by
  show (!(k0_cond1 (grid0.coords t) == 1#1)) = true
  rw [beq_eq_false_iff_ne.mpr (fun e => h ((cond1_iff t).mp e))]; rfl
theorem idle5_false (t : Fin cfg0.N) (h : t.val = 61) : cfg0.idle 5 (cfg0.grid.coords t) = false := by
  show (!(k0_cond2 (grid0.coords t) == 1#1)) = false
  rw [(cond2_iff t).mpr h]; rfl
theorem idle5_true (t : Fin cfg0.N) (h : t.val ≠ 61) : cfg0.idle 5 (cfg0.grid.coords t) = true := by
  show (!(k0_cond2 (grid0.coords t) == 1#1)) = true
  rw [beq_eq_false_iff_ne.mpr (fun e => h ((cond2_iff t).mp e))]; rfl

theorem flush4_false (t : Fin cfg0.N) (h : t.val ≠ 61) : (cfg0.win 4).flush t = false := by
  have ht : t.val < 62 := Nat.lt_of_lt_of_eq t.isLt N_0
  exact Bool.eq_false_iff.mpr fun e => h (by have := (flush0_4 t).mp e; omega)
theorem flush5_false (t : Fin cfg0.N) (h : t.val ≠ 61) : (cfg0.win 5).flush t = false := by
  have ht : t.val < 62 := Nat.lt_of_lt_of_eq t.isLt N_0
  exact Bool.eq_false_iff.mpr fun e => h (by have := (flush0_5 t).mp e; omega)

/-! ## The values -/

/-- The history of magnitudes, as every point's first window holds it. -/
def hist (c : Dev nD) : Vec F S1x16 .f32 := iblk m c 0 ⟨0, by rw [show cfg0.N = 62 from N_0]; decide⟩

theorem iblk0_eq (c : Dev nD) (t : Fin cfg0.N) : (iblk m c 0 t : Vec F S1x16 .f32) = hist m c := rfl

/-- The second window's block at a grid point. -/
def blk1 (c : Dev nD) (t : Fin cfg0.N) : Vec F S512x6912 .bf16 := iblk m c 1 t

/-- The block of 512 rows point `n` reads. -/
def rows (c : Dev nD) (n : ℕ) : Vec F S512x6912 .bf16 := blk1 m c ⟨n % cfg0.N, Nat.mod_lt _ (by rw [show cfg0.N = 62 from N_0]; decide)⟩

theorem iblk1_eq (c : Dev nD) (t : Fin cfg0.N) : (iblk m c 1 t : Vec F S512x6912 .bf16) = rows m c t.val := by
  have e : t = ⟨t.val % cfg0.N, Nat.mod_lt _ (by rw [show cfg0.N = 62 from N_0]; decide)⟩ := Fin.ext (Nat.mod_eq_of_lt t.isLt).symm
  exact congrArg (blk1 m c) e

/-- The running block of magnitudes before point `n`. -/
def accOn (c : Dev nD) : ℕ → Vec F S16x128 .bf16
  | 0 => k0_pay2
  | n + 1 => accFold (rows m c n) (accOn c n) 54

/-! ## The proof data -/

abbrev ms0_0 (t : Fin cfg0.N) : Memref sig .tc .vmem S1x16 .f32 := win0_0.stage (cfg0.slots t 0)
abbrev ms0_1 (t : Fin cfg0.N) : Memref sig .tc .vmem S512x6912 .bf16 := win0_1.stage (cfg0.slots t 1)
abbrev ms0_2 (t : Fin cfg0.N) : Memref sig .tc .vmem S512x6912 .fp8e4m3 := win0_2.stage (cfg0.slots t 2)
abbrev ms0_3 (t : Fin cfg0.N) : Memref sig .tc .vmem S6912x512 .fp8e4m3 := win0_3.stage (cfg0.slots t 3)
abbrev ms0_4 (t : Fin cfg0.N) : Memref sig .tc .vmem S1x1 .f32 := win0_4.stage (cfg0.slots t 4)
abbrev ms0_5 (t : Fin cfg0.N) : Memref sig .tc .vmem S1x1 .f32 := win0_5.stage (cfg0.slots t 5)
/-- The scratch the kernel carries between points. -/
abbrev scM0_0 : Memref sig .tc .vmem S16x128 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The invariant before position `n`: before the first point the scratch at anything, afterwards at the running block. -/
def PhiS (c : Dev nD) : (n : ℕ) → n ≤ cfg0.N → sProp 𝕄
  | 0, _ => Pipeline.ΦA spec0 c
  | n + 1, _ => iprop(owns (c : Thread nD τ) scM0_0 fullShare (accOn m c (n + 1)) ∗ (∃ r, prngReg c r))

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) :
    PhiS m c n h = iprop(owns (c : Thread nD τ) scM0_0 fullShare (accOn m c n) ∗ (∃ r, prngReg c r)) := by
  cases n with
  | zero => exact absurd rfl hz
  | succ n => rfl

/-- After the body at point `t`: the inputs' buffers at their blocks, the codes of the point's rows, the scale and the largest
    magnitude (the latter two stored at one point only and kept). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => codesOf (expOf (hist m c)) (rows m c t.val)
    | ⟨3, _⟩ => codesTOf (expOf (hist m c)) (rows m c t.val)
    | ⟨4, _⟩ => scaleOf (hist m c)
    | ⟨5, _⟩ => k0_pay7 (accOn m c 62)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = codesOf (expOf (hist m c)) (rows m c t.val) := by dsimp only [dats]
theorem after0_3 (c : Dev nD) (t : Fin cfg0.N) : (dats m 0 c).after 3 t = codesTOf (expOf (hist m c)) (rows m c t.val) := by dsimp only [dats]
theorem after0_4 (c : Dev nD) (t : Fin cfg0.N) : (dats m 0 c).after 4 t = scaleOf (hist m c) := by dsimp only [dats]
theorem after0_5 (c : Dev nD) (t : Fin cfg0.N) : (dats m 0 c).after 5 t = k0_pay7 (accOn m c 62) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The scale's buffer keeps, after the first point, the scale stored there. -/
theorem before0_4 (c : Dev nD) : ∀ (n : ℕ) (hn : n + 1 < cfg0.N) (d), (dats m 0 c).before 4 ⟨n + 1, hn⟩ d = scaleOf (hist m c)
  | n, hn, d => by
    have hN : cfg0.N = 62 := N_0
    rw [(dats m 0 c).before_of_pos 4 ⟨n + 1, hn⟩ (Nat.succ_ne_zero n) rfl d]
    show (if (cfg0.win 4).flush ⟨n, _⟩ then d else (dats m 0 c).left 4 ⟨n, _⟩ d) = _
    rw [flush4_false ⟨n, _⟩ (by show n ≠ 61; omega), if_neg Bool.false_ne_true]
    unfold Dat.left
    cases n with
    | zero => rw [idle4_false ⟨0, _⟩ rfl]; rfl
    | succ n =>
      rw [idle4_true ⟨n + 1, _⟩ (Nat.succ_ne_zero n)]
      exact before0_4 c n _ d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [iblk0_eq, iblk1_eq]
  have hN : t.val < 62 := lt_of_lt_of_eq t.isLt (show cfg0.N = 62 from N_0)
  rw [PhiS_castSucc m c t]
  by_cases h0 : t.val = 0
  · have h1 : t.val ≠ 61 := by omega
    rw [PhiS_zero m c _ _ h0, PhiA0_eq]
    rw [show (dats m 0 c).leavesExact 4 t = owns (c : Thread nD τ) (ms0_4 t) fullShare ((dats m 0 c).after 4 t) from by
      unfold Dat.leavesExact; rw [idle4_false t h0], after0_4]
    rw [(dats m 0 c).leavesExact_idle 5 t (idle5_true t h1) (flush5_false t h1)]
    have hacc : accOn m c (t.val + 1) = accFold (rows m c t.val) k0_pay2 54 := by rw [h0]; rfl
    rw [hacc]
    iintro ⟨⟨HS0, Hg⟩, Ho, ⟨%d0, H0⟩, ⟨%d1, H1⟩, ⟨%d2, H2⟩, ⟨%d3, H3⟩, ⟨%d4, H4⟩, ⟨%d5, H5⟩⟩
    iapply (body_A c (grid0.coords t) _ _ _ _ _ _ _ _ _ _ _ _ scM0_0 (Memref.isWhole_whole _) ((cond1_iff t).mpr h0) (fun h => h1 ((cond2_iff t).mp h)) (hist m c) (rows m c t.val) _ _ Set.univ _)
    isplitl [H0]; · iexact H0
    isplitl [H1]; · iexact H1
    isplitl [H2]; · iexists _; iexact H2
    isplitl [H3]; · iexists _; iexact H3
    isplitl [H4]; · iexact H4
    isplitl [H5]; · iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hacc : accOn m c (t.val + 1) = accFold (rows m c t.val) (accOn m c t.val) 54 := rfl
    rw [hacc, PhiS_pos m c _ _ h0]
    by_cases h1 : t.val = 61
    · have hb : ∀ d, (dats m 0 c).before 4 t d = scaleOf (hist m c) := fun d => by
        obtain ⟨n, hn⟩ := t
        obtain ⟨k, rfl⟩ : ∃ k, n = k + 1 := ⟨n - 1, by dsimp only at h0; omega⟩
        exact before0_4 m c k hn d
      rw [show (dats m 0 c).leavesExact 4 t = owns (c : Thread nD τ) (ms0_4 t) fullShare ((dats m 0 c).after 4 t) from by
        unfold Dat.leavesExact; rw [idle4_true t h0, (flush0_4 t).mpr (by omega)], after0_4]
      rw [show (dats m 0 c).leavesExact 5 t = owns (c : Thread nD τ) (ms0_5 t) fullShare ((dats m 0 c).after 5 t) from by
        unfold Dat.leavesExact; rw [idle5_false t h1], after0_5]
      have hfin : (k0_pay7 (accOn m c 62) : Vec F S1x1 .f32) = k0_pay7 (accFold (rows m c t.val) (accOn m c t.val) 54) := by rw [h1]; rfl
      rw [hfin]
      simp only [hb]
      iintro ⟨⟨HS0, Hg⟩, Ho, ⟨%d0, H0⟩, ⟨%d1, H1⟩, ⟨%d2, H2⟩, ⟨%d3, H3⟩, ⟨%d4, H4⟩, ⟨%d5, H5⟩⟩
      iapply (body_C c (grid0.coords t) _ _ _ _ _ _ _ _ _ _ _ _ scM0_0 (Memref.isWhole_whole _) (fun h => h0 ((cond1_iff t).mp h)) ((cond2_iff t).mpr h1) (hist m c) (rows m c t.val) _ _ (accOn m c t.val) Set.univ _)
      isplitl [H0]; · iexact H0
      isplitl [H1]; · iexact H1
      isplitl [H2]; · iexists _; iexact H2
      isplitl [H3]; · iexists _; iexact H3
      isplitl [H4]; · iexact H4
      isplitl [H5]; · iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [(dats m 0 c).leavesExact_idle 4 t (idle4_true t h0) (flush4_false t h1)]
      rw [(dats m 0 c).leavesExact_idle 5 t (idle5_true t h1) (flush5_false t h1)]
      iintro ⟨⟨HS0, Hg⟩, Ho, ⟨%d0, H0⟩, ⟨%d1, H1⟩, ⟨%d2, H2⟩, ⟨%d3, H3⟩, ⟨%d4, H4⟩, ⟨%d5, H5⟩⟩
      iapply (body_B c (grid0.coords t) _ _ _ _ _ _ _ _ _ _ _ _ scM0_0 (Memref.isWhole_whole _) (fun h => h0 ((cond1_iff t).mp h)) (fun h => h1 ((cond2_iff t).mp h)) (hist m c) (rows m c t.val) _ _ (accOn m c t.val) Set.univ _)
      isplitl [H0]; · iexact H0
      isplitl [H1]; · iexact H1
      isplitl [H2]; · iexists _; iexact H2
      isplitl [H3]; · iexists _; iexact H3
      isplitl [H4]; · iexact H4
      isplitl [H5]; · iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 62 := N_0; omega)

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c))⟩) (run_main m ρ)

/-- The frame: the arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Hand

end
-- ==== Proof.Powers.lean ====
module

public import Idealize.ShloMosaic.Lib.Pointwise
public import Idealize.ShloMosaic.Lib.Pointwise.Reduce
public import Idealize.ShloMosaic.Lib.ValueIdx
public import Idealize.ShloMosaic.PureOps.Ideal.Laws

/-! # The powers of two behind an exponent field, and the search for a number's exponent

`pw n` is the value of the float whose exponent field is `n` and whose other bits are zero: `0` at `n = 0`, a power of
two up to `n = 254`, and `+∞` at `n = 255`.  Every non-negative value lies from one of them up to (not including) the
next; `IsField a n` says so, and `field_exists` finds the `n`. -/

@[expose] public section
noncomputable section

namespace Cert.Equation

open Idealize.ShloMosaic

/-- The value of the float with exponent field `n` and nothing else. -/
def pw (n : Nat) : EReal := if n = 0 then 0 else if n = 255 then ⊤ else (((2 : ℝ) ^ ((n : ℤ) - 127) : ℝ) : EReal)

theorem pw_zero : pw 0 = 0 := rfl
theorem pw_top : pw 255 = ⊤ := rfl
theorem pw_mid {n : Nat} (h0 : 1 ≤ n) (h1 : n ≤ 254) : pw n = (((2 : ℝ) ^ ((n : ℤ) - 127) : ℝ) : EReal) := by
  unfold pw; rw [if_neg (by omega), if_neg (by omega)]

/-- The bit pattern with `t` in its exponent field denotes `pw t`. -/
theorem ofBits_shift (t : BitVec 32) (h : t.toNat < 256) : Ideal.ofBits .f32 (t <<< 23) = pw t.toNat := by
  obtain ⟨n, hn, rfl⟩ : ∃ n < 256, t = BitVec.ofNat 32 n := ⟨t.toNat, h, by simp⟩
  have hex : ∀ n < 256, BitVec.extractLsb' 23 8 (BitVec.ofNat 32 n <<< 23) = BitVec.ofNat 8 n := by decide +kernel
  have hfr : ∀ n < 256, BitVec.extractLsb' 0 23 (BitVec.ofNat 32 n <<< 23) = 0#23 := by decide +kernel
  have hsg : ∀ n < 256, BitVec.extractLsb' 31 1 (BitVec.ofNat 32 n <<< 23) = 0#1 := by decide +kernel
  have hN : (BitVec.ofNat 32 n).toNat = n := by simp; omega
  have hex' : (BitVec.extractLsb' 23 8 (BitVec.ofNat 32 n <<< 23)).toNat = n := by
    rw [hex n hn, BitVec.toNat_ofNat]; omega
  have hsg' : (BitVec.extractLsb' (8 + 23) 1 (BitVec.ofNat 32 n <<< 23) == 1#1) = false := by
    rw [show (8 + 23 : Nat) = 31 from rfl, hsg n hn]; rfl
  rw [hN]
  simp only [Ideal.ofBits, Ideal.ieee]
  rw [hex', hsg', hfr n hn]
  by_cases h0 : n = 0
  · subst h0; simp [pw_zero]
  by_cases h1 : n = 255
  · subst h1; simp [pw_top]
  rw [if_neg (by simpa using h1), if_neg h0, pw_mid (by omega) (by omega)]
  congr 1
  have h2 : (2 : ℝ) ^ ((n : ℤ) - (2 ^ (8 - 1) - 1) - ((23 : Nat) : ℤ)) = 2 ^ ((n : ℤ) - 127) / 2 ^ 23 := by
    rw [← zpow_natCast, ← zpow_sub₀ (by norm_num)]; norm_num
  rw [h2]
  simp
  ring

theorem pw_nonneg (n : Nat) : 0 ≤ pw n := by
  unfold pw; split_ifs
  · exact le_rfl
  · exact le_top
  · exact_mod_cast (by positivity : (0:ℝ) ≤ (2 : ℝ) ^ ((n : ℤ) - 127))

theorem pw_lt {a b : Nat} (h : a < b) (hb : b ≤ 255) : pw a < pw b := by
  by_cases h0 : a = 0
  · subst h0
    by_cases h1 : b = 255
    · subst h1; rw [pw_zero, pw_top]; exact EReal.zero_lt_top
    · rw [pw_zero, pw_mid (by omega) (by omega)]
      exact_mod_cast (by positivity : (0:ℝ) < (2 : ℝ) ^ ((b : ℤ) - 127))
  · rw [pw_mid (n := a) (by omega) (by omega)]
    by_cases h1 : b = 255
    · subst h1; rw [pw_top]; exact EReal.coe_lt_top _
    · rw [pw_mid (n := b) (by omega) (by omega), EReal.coe_lt_coe_iff]
      exact zpow_lt_zpow_right₀ (by norm_num) (by omega)

theorem pw_le {a b : Nat} (h : a ≤ b) (hb : b ≤ 255) : pw a ≤ pw b := by
  rcases h.eq_or_lt with rfl | h
  · exact le_rfl
  · exact (pw_lt h hb).le

/-- `n` is the exponent field of the non-negative value `a`. -/
structure IsField (a : EReal) (n : Nat) : Prop where
  le255 : n ≤ 255
  lt_iff : ∀ t ≤ 255, (a < pw t ↔ n < t)

/-- Every non-negative value has an exponent field. -/
theorem field_exists {a : EReal} (ha : 0 ≤ a) : ∃ n, IsField a n := by
  classical
  refine ⟨Nat.findGreatest (fun t => pw t ≤ a) 255, Nat.findGreatest_le _, fun t ht => ?_⟩
  have hP : pw (Nat.findGreatest (fun t => pw t ≤ a) 255) ≤ a :=
    Nat.findGreatest_spec (P := fun t => pw t ≤ a) (m := 0) (Nat.zero_le _) (by simpa [pw_zero] using ha)
  constructor
  · intro h
    by_contra hc
    exact absurd ((pw_le (not_lt.mp hc) (Nat.findGreatest_le _)).trans hP) (not_le.mpr h)
  · intro h
    by_contra hc
    exact absurd (Nat.le_findGreatest (P := fun t => pw t ≤ a) ht (not_lt.mp hc)) (not_le.mpr h)

/-- The field is 255 exactly at infinity. -/
theorem IsField.eq_top_iff {a : EReal} {n : Nat} (h : IsField a n) : a = ⊤ ↔ n = 255 := by
  have h1 := h.lt_iff 255 le_rfl
  have h2 := h.le255
  rw [pw_top, lt_top_iff_ne_top] at h1
  constructor
  · intro e
    by_contra hc
    exact (h1.mpr (by omega)) e
  · rintro rfl
    by_contra hc
    exact absurd (h1.mp hc) (lt_irrefl _)

/-- One step of the search: take the candidate `u + s` unless `a` lies below its power of two. -/
def step (a : EReal) (u s : BitVec 32) : BitVec 32 :=
  Scalar.select (Ideal.cmp .olt a (Ideal.ofBits .f32 ((u + s) <<< 23))) u (u + s)

/-- A step halves the range that holds the field. -/
theorem step_spec {a : EReal} {n : Nat} (h : IsField a n) (u s : BitVec 32) (h0 : u.toNat ≤ n)
    (h1 : n < u.toNat + 2 * s.toNat) (h2 : u.toNat + 2 * s.toNat ≤ 256) :
    (step a u s).toNat ≤ n ∧ n < (step a u s).toNat + s.toNat ∧ (step a u s).toNat + s.toNat ≤ 256 := by
  have hadd : (u + s).toNat = u.toNat + s.toNat := by rw [BitVec.toNat_add]; omega
  have hc : Ideal.cmp .olt a (Ideal.ofBits .f32 ((u + s) <<< 23)) = BitVec.ofBool (decide (n < u.toNat + s.toNat)) := by
    rw [ofBits_shift _ (by omega), hadd]
    show BitVec.ofBool (decide (a < _)) = _
    congr 1
    exact decide_eq_decide.mpr (h.lt_iff _ (by omega))
  unfold step
  rw [hc]
  by_cases hd : n < u.toNat + s.toNat
  · rw [decide_eq_true hd]; show u.toNat ≤ n ∧ n < u.toNat + s.toNat ∧ u.toNat + s.toNat ≤ 256; omega
  · rw [decide_eq_false hd]
    show (u + s).toNat ≤ n ∧ n < (u + s).toNat + s.toNat ∧ (u + s).toNat + s.toNat ≤ 256
    omega

/-- The search: eight steps from zero, by 128, 64, …, 1. -/
def search (a : EReal) : BitVec 32 :=
  step a (step a (step a (step a (step a (step a (step a (step a 0#32 128#32) 64#32) 32#32) 16#32) 8#32) 4#32) 2#32) 1#32

/-- The search finds the exponent field. -/
theorem search_eq {a : EReal} {n : Nat} (h : IsField a n) : search a = BitVec.ofNat 32 n := by
  have hn := h.le255
  unfold search
  obtain ⟨a1, b1, c1⟩ := step_spec h 0#32 128#32 (by simp) (by simp; omega) (by simp)
  obtain ⟨a2, b2, c2⟩ := step_spec h _ 64#32 a1 (by simpa using b1) (by simpa using c1)
  obtain ⟨a3, b3, c3⟩ := step_spec h _ 32#32 a2 (by simpa using b2) (by simpa using c2)
  obtain ⟨a4, b4, c4⟩ := step_spec h _ 16#32 a3 (by simpa using b3) (by simpa using c3)
  obtain ⟨a5, b5, c5⟩ := step_spec h _ 8#32 a4 (by simpa using b4) (by simpa using c4)
  obtain ⟨a6, b6, c6⟩ := step_spec h _ 4#32 a5 (by simpa using b5) (by simpa using c5)
  obtain ⟨a7, b7, c7⟩ := step_spec h _ 2#32 a6 (by simpa using b6) (by simpa using c6)
  obtain ⟨a8, b8, c8⟩ := step_spec h _ 1#32 a7 (by simpa using b7) (by simpa using c7)
  apply BitVec.eq_of_toNat_eq
  rw [BitVec.toNat_ofNat, Nat.mod_eq_of_lt (by omega)]
  simp only [BitVec.toNat_ofNat, Nat.reducePow, Nat.reduceMod] at b8
  omega

end Cert.Equation
-- ==== Proof.Strips.lean ====
/-
  What one trip of the kernel's loop over lane strips, and the whole loop of 54 trips, leave in the buffers they store into.
  The generated loop invariant states the loop's effect as a list of pieces written; this file reads that list back:
  the two code buffers hold the codes of every strip already visited, and the running block of magnitudes holds the fold
  of the strips.
-/
module

public import proofs.«01_k».proof.Proof.Gen.KernelIdeal.Frame
public import proofs.«01_k».proof.Proof.Gen.KernelIdeal.Loops
public import Idealize.ShloMosaic.Lib.WritesUnit
public import Idealize.ShloMosaic.Lib.ValueIdxCore
public import Idealize.ShloMosaic.Lib.ValueLayout
public import Idealize.ShloMosaic.Lib.Pipeline.Value
public import Idealize.ShloMosaic.Lib.Pipeline.ValueKit.Tiles

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.ProofMode Idealize.SL.Sem
open Idealize.ShloMosaic.ValueIdx

variable {F : FTy → Type} [FloatOps F]

theorem hz : (![0, 0] : Fin 2 → Nat) = fun _ => 0 := funext fun a => by fin_cases a <;> rfl

/-! ## The values, as plain functions -/

/-- The reciprocal of the scale the kernel multiplies by, from the scale's exponent `e`: the number whose exponent field
    is `127 - e`, clipped to `[0, 255]`. -/
def invOf (e : IVec S1x1 32) : FVec F S1x1 .f32 :=
  bitcastToFloat .f32 (shli (minsi (broadcast S1x1 255#32) (maxsi (broadcast S1x1 0#32)
    (addi (subi (broadcast S1x1 0#32) e) (broadcast S1x1 127#32)))) (broadcast S1x1 23#32))

/-- One entry's code: the entry times the reciprocal, clipped to ±448, in the eight-bit format. -/
def code (s : FVec F S1x1 .f32) (a : F .bf16) : F .fp8e4m3 :=
  (truncf .fp8e4m3 (minimumf (broadcast S1x1 (Scalar.truncf .bf16 bitsLt_bf16_f32 (Scalar.ofBits .f32 0x43E00000#32 : F .f32)))
    (maximumf (broadcast S1x1 (Scalar.truncf .bf16 bitsLt_bf16_f32 (Scalar.ofBits .f32 0xC3E00000#32 : F .f32)))
      (mulf (broadcast S1x1 a) (truncf .bf16 s bitsLt_bf16_f32)))) bitsLt_fp8e4m3_bf16 : FVec F S1x1 .fp8e4m3) (ix2 0 0)

/-- The codes of a block of 512 rows. -/
def codesOf (e : IVec S1x1 32) (x : Vec F S512x6912 .bf16) : Vec F S512x6912 .fp8e4m3 := fun y => code (invOf e) (x y)

/-- The same codes, transposed. -/
def codesTOf (e : IVec S1x1 32) (x : Vec F S512x6912 .bf16) : Vec F S6912x512 .fp8e4m3 :=
  fun y => code (invOf e) (x (ix2 (y 1) (y 0)))

/-- The `k`-th strip of 128 lanes of a block. -/
def strip (x : Vec F S512x6912 .bf16) (k : ℕ) : Vec F S512x128 .bf16 :=
  fun y => x (ix2 (y 0) ⟨(128 * k + (y 1).val) % 6912, Nat.mod_lt _ (by decide)⟩)

/-- The running block of magnitudes after `k` strips of the block `x`, from the block `acc` before them. -/
def accFold (x : Vec F S512x6912 .bf16) (acc : Vec F S16x128 .bf16) : ℕ → Vec F S16x128 .bf16
  | 0 => acc
  | k + 1 => k0_pay4 (strip x k) (accFold x acc k)

/-- A one-entry vector broadcast to a strip reads its entry everywhere. -/
theorem broadcastTo_one (v : FVec F S1x1 .f32) :
    broadcastTo S512x128 v broadcasts_S1x1_S512x128 = broadcast S512x128 (v (ix2 0 0)) :=
  funext fun j => broadcastTo_apply _ _ j (ix2 0 0) fun a => match a with | ⟨0, _⟩ => rfl | ⟨1, _⟩ => rfl

theorem pay5_apply (e : IVec S1x1 32) (v : Vec F S512x128 .bf16) (y : S512x128.Idx) :
    k0_pay5 e v y = code (invOf e) (v y) := by
  unfold k0_pay5 k0_pay3 code
  simp only [shapeCast_self]
  rw [broadcastTo_one]
  unfold invOf
  simp only [truncf, minimumf, maximumf, mulf, broadcast]

theorem pay6_apply (e : IVec S1x1 32) (v : Vec F S512x128 .bf16) (y : S128x512.Idx) :
    k0_pay6 e v y = code (invOf e) (v (ix2 (y 1) (y 0))) := by
  unfold k0_pay6
  rw [← pay5_apply]
  obtain ⟨j, i, rfl⟩ : ∃ j i, y = ix2 j i := ⟨y 0, y 1, eq_ix2 y⟩
  exact transpose_ix2_apply _ _ j i

/-! ## The offsets, as numbers -/

theorem trips_le : k0_t1_loop.trips ≤ 54 := k0_t1_abs.2.1
theorem trips_eq : k0_t1_loop.trips = 54 := by decide +kernel

theorem off_num : ∀ k : Fin 54, (Scalar.indexCast (Scalar.muli (Scf.iv 0#32 1#32 k.val) 128#32 : BitVec 32) : Index).toNat = 128 * k.val := by
  decide +kernel

theorem off1_eq (k : Fin k0_t1_loop.trips) : k0_off1 k = ![0, 128 * k.val] := by
  have h := off_num ⟨k.val, Nat.lt_of_lt_of_le k.isLt trips_le⟩
  unfold k0_off1
  dsimp only at h ⊢
  rw [h]

theorem off2_eq (k : Fin k0_t1_loop.trips) : k0_off2 k = ![128 * k.val, 0] := by
  have h := off_num ⟨k.val, Nat.lt_of_lt_of_le k.isLt trips_le⟩
  unfold k0_off2
  dsimp only at h ⊢
  rw [h]

/-- What trip `k` loads of the block is its strip `k`. -/
theorem ld_strip (x : Vec F S512x6912 .bf16) (k : Fin k0_t1_loop.trips) :
    (View.ld x (Rect.unit (s := S512x6912) (k0_off1 k) S512x128.size (k0_off1_inb k)) : Vec F S512x128 .bf16) = strip x k.val := by
  have hk : k.val < 54 := Nat.lt_of_lt_of_le k.isLt trips_le
  funext y
  refine View.ld_unit_apply_of _ _ _ _ _ _ fun a => ?_
  refine Eq.trans ?_ (congrArg (fun o : Fin 2 → Nat => o a + (y a).val) (off1_eq k)).symm
  have h1 : (y 1).val < 128 := (y 1).isLt
  match a with
  | ⟨0, _⟩ => show (y 0).val = 0 + (y 0).val; omega
  | ⟨1, _⟩ => show (128 * k.val + (y 1).val) % 6912 = 128 * k.val + (y 1).val; rw [Nat.mod_eq_of_lt (by omega)]

/-! ## One trip -/

section Loop

variable (𝒱 : Variants) (c : Dev nD) (bd : Option 𝒱.V) (i : grid0.Coords) (arg1 : Memref sig .tc .vmem S1x16 .f32) (harg1 : arg1.IsWhole) (arg2 : Memref sig .tc .vmem S512x6912 .bf16) (harg2 : arg2.IsWhole) (arg3 : Memref sig .tc .vmem S512x6912 .fp8e4m3) (harg3 : arg3.IsWhole) (arg4 : Memref sig .tc .vmem S6912x512 .fp8e4m3) (harg4 : arg4.IsWhole) (arg5 : Memref sig .tc .vmem S1x1 .f32) (harg5 : arg5.IsWhole) (arg6 : Memref sig .tc .vmem S1x1 .f32) (harg6 : arg6.IsWhole) (arg7 : Memref sig .tc .vmem S16x128 .bf16) (harg7 : arg7.IsWhole) (v83 : IVec S1x1 32)

theorem tripL_eq (X_arg2 : BufTy.Contents (Elt F) arg2.view.ty) (k : Fin k0_t1_loop.trips) (f_arg3 : BufTy.Contents (Elt F) arg3.view.ty)
    (f_arg4 : BufTy.Contents (Elt F) arg4.view.ty) (f_arg7 : BufTy.Contents (Elt F) arg7.view.ty) :
    tripL_k0_t1 (F := F) 𝒱 c bd i arg1 harg1 arg2 harg2 arg3 harg3 arg4 harg4 arg5 harg5 arg6 harg6 arg7 harg7 v83 X_arg2 k f_arg3 f_arg4 f_arg7
      = ([⟨Rect.unit (s := S512x6912) (k0_off1 k) S512x128.size (k0_off1_inb k), k0_pay5 v83 (strip (arg2.view.read (Elt F) X_arg2) k.val)⟩],
         [⟨Rect.unit (s := S6912x512) (k0_off2 k) S128x512.size (k0_off2_inb k), k0_pay6 v83 (strip (arg2.view.read (Elt F) X_arg2) k.val)⟩],
         [⟨Rect.unit (s := S16x128) ![0, 0] S16x128.size inb_S16x128_S16x128_0_0, k0_pay4 (strip (arg2.view.read (Elt F) X_arg2) k.val) (arg7.view.read (Elt F) f_arg7)⟩]) := by
  rw [← ld_strip, ← View.ld_unit_zero (S := S16x128) hz inb_S16x128_S16x128_0_0 (arg7.view.read (Elt F) f_arg7)]
  unfold tripL_k0_t1 trip_k0_t1
  dsimp only
  sl_unfold_words
  rfl

/-! ## The trips so far -/

variable (X_arg2 : BufTy.Contents (Elt F) arg2.view.ty) (G_arg3 : BufTy.Contents (Elt F) arg3.view.ty) (G_arg4 : BufTy.Contents (Elt F) arg4.view.ty) (G_arg7 : BufTy.Contents (Elt F) arg7.view.ty)

/-- The running block of magnitudes before trip `k`. -/
theorem read_pb7 : ∀ k, k ≤ k0_t1_loop.trips →
    arg7.view.read (Elt F) (arg7.view.writes (Elt F) G_arg7 (pb_k0_t1 (F := F) 𝒱 c bd i arg1 harg1 arg2 harg2 arg3 harg3 arg4 harg4 arg5 harg5 arg6 harg6 arg7 harg7 v83 X_arg2 G_arg3 G_arg4 G_arg7 k).2.2)
      = accFold (arg2.view.read (Elt F) X_arg2) (arg7.view.read (Elt F) G_arg7) k
  | 0, _ => rfl
  | k + 1, hk => by
    have ih := read_pb7 k (by omega)
    have h := pb_k0_t1_succ (F := F) 𝒱 c bd i arg1 harg1 arg2 harg2 arg3 harg3 arg4 harg4 arg5 harg5 arg6 harg6 arg7 harg7 v83 X_arg2 G_arg3 G_arg4 G_arg7 ⟨k, hk⟩
    rw [tripL_eq] at h
    dsimp only at h
    rw [h]
    dsimp only
    rw [List.singleton_append]
    funext y
    refine (View.read_writes_cons_unit_of_mem _ _ _ _ _ y y hz (fun a => (Nat.zero_add _).symm)).trans ?_
    rw [ih]
    rfl

/-- The codes stored before trip `k`: every lane of the strips before it. -/
theorem read_pb3 : ∀ k, k ≤ k0_t1_loop.trips → ∀ y : S512x6912.Idx, (y 1).val < 128 * k →
    arg3.view.read (Elt F) (arg3.view.writes (Elt F) G_arg3 (pb_k0_t1 (F := F) 𝒱 c bd i arg1 harg1 arg2 harg2 arg3 harg3 arg4 harg4 arg5 harg5 arg6 harg6 arg7 harg7 v83 X_arg2 G_arg3 G_arg4 G_arg7 k).1) y
      = codesOf v83 (arg2.view.read (Elt F) X_arg2) y
  | 0, _, y, hy => absurd hy (by omega)
  | k + 1, hk, y, hy => by
    have h := pb_k0_t1_succ (F := F) 𝒱 c bd i arg1 harg1 arg2 harg2 arg3 harg3 arg4 harg4 arg5 harg5 arg6 harg6 arg7 harg7 v83 X_arg2 G_arg3 G_arg4 G_arg7 ⟨k, hk⟩
    have h54 := trips_le
    rw [tripL_eq] at h
    dsimp only at h
    rw [h]
    dsimp only
    rw [List.singleton_append]
    by_cases hlt : (y 1).val < 128 * k
    · rw [View.read_writes_cons_unit_of_not_mem _ _ _ _ _ y (off1_eq ⟨k, hk⟩) 1 (Or.inl hlt)]
      exact read_pb3 k (by omega) y hlt
    · have h0 : (y 0).val < 512 := (y 0).isLt
      refine (View.read_writes_cons_unit_of_mem _ _ _ _ _ y (ix2 (y 0) ⟨(y 1).val - 128 * k, by omega⟩ : S512x128.Idx) (off1_eq ⟨k, hk⟩) (fun a => by
        match a with
        | ⟨0, _⟩ => exact (Nat.zero_add _).symm
        | ⟨1, _⟩ => show (y 1).val = 128 * k + ((y 1).val - 128 * k); omega)).trans ?_
      rw [pay5_apply]
      show code (invOf v83) (arg2.view.read (Elt F) X_arg2 _) = code (invOf v83) (arg2.view.read (Elt F) X_arg2 y)
      refine congrArg (fun z => code (invOf v83) (arg2.view.read (Elt F) X_arg2 z)) (funext fun a => Fin.ext ?_)
      have h1 : (y 1).val < 6912 := (y 1).isLt
      match a with
      | ⟨0, _⟩ => rfl
      | ⟨1, _⟩ => show (128 * k + ((y 1).val - 128 * k)) % 6912 = (y 1).val; rw [Nat.mod_eq_of_lt (by omega)]; omega

/-- The transposed codes stored before trip `k`. -/
theorem read_pb4 : ∀ k, k ≤ k0_t1_loop.trips → ∀ y : S6912x512.Idx, (y 0).val < 128 * k →
    arg4.view.read (Elt F) (arg4.view.writes (Elt F) G_arg4 (pb_k0_t1 (F := F) 𝒱 c bd i arg1 harg1 arg2 harg2 arg3 harg3 arg4 harg4 arg5 harg5 arg6 harg6 arg7 harg7 v83 X_arg2 G_arg3 G_arg4 G_arg7 k).2.1) y
      = codesTOf v83 (arg2.view.read (Elt F) X_arg2) y
  | 0, _, y, hy => absurd hy (by omega)
  | k + 1, hk, y, hy => by
    have h := pb_k0_t1_succ (F := F) 𝒱 c bd i arg1 harg1 arg2 harg2 arg3 harg3 arg4 harg4 arg5 harg5 arg6 harg6 arg7 harg7 v83 X_arg2 G_arg3 G_arg4 G_arg7 ⟨k, hk⟩
    have h54 := trips_le
    rw [tripL_eq] at h
    dsimp only at h
    rw [h]
    dsimp only
    rw [List.singleton_append]
    by_cases hlt : (y 0).val < 128 * k
    · rw [View.read_writes_cons_unit_of_not_mem _ _ _ _ _ y (off2_eq ⟨k, hk⟩) 0 (Or.inl hlt)]
      exact read_pb4 k (by omega) y hlt
    · refine (View.read_writes_cons_unit_of_mem _ _ _ _ _ y (ix2 ⟨(y 0).val - 128 * k, by omega⟩ (y 1) : S128x512.Idx) (off2_eq ⟨k, hk⟩) (fun a => by
        match a with
        | ⟨0, _⟩ => show (y 0).val = 128 * k + ((y 0).val - 128 * k); omega
        | ⟨1, _⟩ => exact (Nat.zero_add _).symm)).trans ?_
      rw [pay6_apply]
      show code (invOf v83) (arg2.view.read (Elt F) X_arg2 _) = code (invOf v83) (arg2.view.read (Elt F) X_arg2 _)
      refine congrArg (fun z => code (invOf v83) (arg2.view.read (Elt F) X_arg2 z)) (funext fun a => Fin.ext ?_)
      have h1 : (y 0).val < 6912 := (y 0).isLt
      match a with
      | ⟨0, _⟩ => rfl
      | ⟨1, _⟩ => show (128 * k + ((y 0).val - 128 * k)) % 6912 = (y 0).val; rw [Nat.mod_eq_of_lt (by omega)]; omega

/-! ## The whole loop -/

theorem read_loop3 : arg3.view.read (Elt F) (arg3.view.writes (Elt F) G_arg3 (pb_k0_t1 (F := F) 𝒱 c bd i arg1 harg1 arg2 harg2 arg3 harg3 arg4 harg4 arg5 harg5 arg6 harg6 arg7 harg7 v83 X_arg2 G_arg3 G_arg4 G_arg7 k0_t1_loop.trips).1)
      = codesOf v83 (arg2.view.read (Elt F) X_arg2) :=
  funext fun y => read_pb3 𝒱 c bd i arg1 harg1 arg2 harg2 arg3 harg3 arg4 harg4 arg5 harg5 arg6 harg6 arg7 harg7 v83 X_arg2 G_arg3 G_arg4 G_arg7 _ le_rfl y (by rw [trips_eq]; exact (y 1).isLt)

theorem read_loop4 : arg4.view.read (Elt F) (arg4.view.writes (Elt F) G_arg4 (pb_k0_t1 (F := F) 𝒱 c bd i arg1 harg1 arg2 harg2 arg3 harg3 arg4 harg4 arg5 harg5 arg6 harg6 arg7 harg7 v83 X_arg2 G_arg3 G_arg4 G_arg7 k0_t1_loop.trips).2.1)
      = codesTOf v83 (arg2.view.read (Elt F) X_arg2) :=
  funext fun y => read_pb4 𝒱 c bd i arg1 harg1 arg2 harg2 arg3 harg3 arg4 harg4 arg5 harg5 arg6 harg6 arg7 harg7 v83 X_arg2 G_arg3 G_arg4 G_arg7 _ le_rfl y (by rw [trips_eq]; exact (y 0).isLt)

theorem read_loop7 : arg7.view.read (Elt F) (arg7.view.writes (Elt F) G_arg7 (pb_k0_t1 (F := F) 𝒱 c bd i arg1 harg1 arg2 harg2 arg3 harg3 arg4 harg4 arg5 harg5 arg6 harg6 arg7 harg7 v83 X_arg2 G_arg3 G_arg4 G_arg7 k0_t1_loop.trips).2.2)
      = accFold (arg2.view.read (Elt F) X_arg2) (arg7.view.read (Elt F) G_arg7) 54 := by
  rw [read_pb7 𝒱 c bd i arg1 harg1 arg2 harg2 arg3 harg3 arg4 harg4 arg5 harg5 arg6 harg6 arg7 harg7 v83 X_arg2 G_arg3 G_arg4 G_arg7 _ le_rfl, trips_eq]

end Loop

end Cert.KernelIdeal.Hand

end
-- ==== Proof.Body.lean ====
/-
  What the kernel's body leaves at one grid point, in the three cases of its two conditionals: the first point (the scale is
  stored and the running block of magnitudes starts at zero), a middle point, and the last point (the largest magnitude is
  stored). Each is a triple over any whole staging buffers, its results plain functions of the history and of the block.
-/
module

public import proofs.«01_k».proof.Proof.Strips

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The exponent of the scale, from the history of magnitudes. -/
def expOf (h : Vec F S1x16 .f32) : IVec S1x1 32 := k0_pay13 (k0_pay8 h) (k0_pay9 h) (k0_pay10 h) (k0_pay11 h) (k0_pay12 h)

/-- The scale, from the history of magnitudes. -/
def scaleOf (h : Vec F S1x16 .f32) : Vec F S1x1 .f32 :=
  k0_pay1 (k0_pay14 (k0_pay8 h) (k0_pay9 h) (k0_pay10 h) (k0_pay11 h) (k0_pay12 h)) k0_pay15

/-- A store through the whole shape at offset zero leaves its payload. -/
theorem read_whole7 (v : View sig .tc .vmem S16x128 .bf16) (f : v.ty.Contents (Elt F)) (w : Vec F S16x128 .bf16) :
    v.read (Elt F) (v.writes (Elt F) f [⟨Rect.unit (s := S16x128) ![0, 0] S16x128.size inb_S16x128_S16x128_0_0, w⟩]) = w :=
  funext fun y => View.read_writes_cons_unit_of_mem _ _ _ _ _ y y hz (fun a => (Nat.zero_add _).symm)
theorem read_whole1 (v : View sig .tc .vmem S1x1 .f32) (f : v.ty.Contents (Elt F)) (w : Vec F S1x1 .f32) :
    v.read (Elt F) (v.writes (Elt F) f [⟨Rect.unit (s := S1x1) ![0, 0] S1x1.size inb_S1x1_S1x1_0_0, w⟩]) = w :=
  funext fun y => View.read_writes_cons_unit_of_mem _ _ _ _ _ y y hz (fun a => (Nat.zero_add _).symm)

set_option maxHeartbeats 4000000 in
/-- The first point. -/
theorem body_A (c : Dev nD) (i : grid0.Coords) (arg1 : Memref sig .tc .vmem S1x16 .f32) (harg1 : arg1.IsWhole) (arg2 : Memref sig .tc .vmem S512x6912 .bf16) (harg2 : arg2.IsWhole) (arg3 : Memref sig .tc .vmem S512x6912 .fp8e4m3) (harg3 : arg3.IsWhole) (arg4 : Memref sig .tc .vmem S6912x512 .fp8e4m3) (harg4 : arg4.IsWhole) (arg5 : Memref sig .tc .vmem S1x1 .f32) (harg5 : arg5.IsWhole) (arg6 : Memref sig .tc .vmem S1x1 .f32) (harg6 : arg6.IsWhole) (arg7 : Memref sig .tc .vmem S16x128 .bf16) (harg7 : arg7.IsWhole)
    (hc0 : k0_cond1 i = 1#1) (hc1 : ¬k0_cond2 i = 1#1) (x0 : Vec F S1x16 .f32) (x1 : Vec F S512x6912 .bf16) (d5 d6 : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare d5 ∗ owns (c : Thread nD τ) arg6 fullShare d6 ∗ (∃ d, owns (c : Thread nD τ) arg7 fullShare d)
        ∗ (iprop(owns (c : Thread nD τ) arg1 fullShare x0 ∗ owns (c : Thread nD τ) arg2 fullShare x1 ∗ owns (c : Thread nD τ) arg3 fullShare (codesOf (expOf x0) x1) ∗ owns (c : Thread nD τ) arg4 fullShare (codesTOf (expOf x0) x1) ∗ owns (c : Thread nD τ) arg5 fullShare (scaleOf x0) ∗ owns (c : Thread nD τ) arg6 fullShare d6 ∗ owns (c : Thread nD τ) arg7 fullShare (accFold x1 k0_pay2 54)) -∗ K ⟨⟩))
      ⊢ wp frame (wpE (defs₀ (F := F)) Variants.none c none) E (cc0_cast_transpose i arg1 harg1 arg2 harg2 arg3 harg3 arg4 harg4 arg5 harg5 arg6 harg6 arg7 harg7) K := by
  simp only [cc0_cast_transpose_eq_skeleton]; unfold cc0_cast_transpose_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%ds0, %fs0, -, HS0⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact (read_loop3 ..).trans (congrArg₂ codesOf (by sl_unfold_words; unfold expOf; simp only [View.readAt_eq_ld, harg1.read_unread, View.ld_unit_zero (S := S1x16) hz]) (harg2.read_unread _))
  isplitl [H3]
  · iexists _; isplitr; swap; · iexact H3
    ipureintro
    exact (read_loop4 ..).trans (congrArg₂ codesTOf (by sl_unfold_words; unfold expOf; simp only [View.readAt_eq_ld, harg1.read_unread, View.ld_unit_zero (S := S1x16) hz]) (harg2.read_unread _))
  isplitl [H4]
  · iexists _; isplitr; swap; · iexact H4
    ipureintro
    sl_unfold_words
    refine (read_whole1 ..).trans ?_
    unfold scaleOf
    simp only [View.readAt_eq_ld, harg1.read_unread, View.ld_unit_zero (S := S1x16) hz]
  isplitl [H5]
  · iexists _; isplitr; swap; · iexact H5
    ipureintro
    exact hf5
  iexists _; isplitr; swap; · iexact HS0
  ipureintro
  rw [View.writes_append]
  exact (read_loop7 ..).trans (congrArg₂ (fun x a => accFold x a 54) (harg2.read_unread _) (by sl_unfold_words; exact read_whole7 ..))

set_option maxHeartbeats 4000000 in
/-- A middle point. -/
theorem body_B (c : Dev nD) (i : grid0.Coords) (arg1 : Memref sig .tc .vmem S1x16 .f32) (harg1 : arg1.IsWhole) (arg2 : Memref sig .tc .vmem S512x6912 .bf16) (harg2 : arg2.IsWhole) (arg3 : Memref sig .tc .vmem S512x6912 .fp8e4m3) (harg3 : arg3.IsWhole) (arg4 : Memref sig .tc .vmem S6912x512 .fp8e4m3) (harg4 : arg4.IsWhole) (arg5 : Memref sig .tc .vmem S1x1 .f32) (harg5 : arg5.IsWhole) (arg6 : Memref sig .tc .vmem S1x1 .f32) (harg6 : arg6.IsWhole) (arg7 : Memref sig .tc .vmem S16x128 .bf16) (harg7 : arg7.IsWhole)
    (hc0 : ¬k0_cond1 i = 1#1) (hc1 : ¬k0_cond2 i = 1#1) (x0 : Vec F S1x16 .f32) (x1 : Vec F S512x6912 .bf16) (d5 d6 : Vec F S1x1 .f32) (xs0 : Vec F S16x128 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare d5 ∗ owns (c : Thread nD τ) arg6 fullShare d6 ∗ owns (c : Thread nD τ) arg7 fullShare xs0
        ∗ (iprop(owns (c : Thread nD τ) arg1 fullShare x0 ∗ owns (c : Thread nD τ) arg2 fullShare x1 ∗ owns (c : Thread nD τ) arg3 fullShare (codesOf (expOf x0) x1) ∗ owns (c : Thread nD τ) arg4 fullShare (codesTOf (expOf x0) x1) ∗ owns (c : Thread nD τ) arg5 fullShare d5 ∗ owns (c : Thread nD τ) arg6 fullShare d6 ∗ owns (c : Thread nD τ) arg7 fullShare (accFold x1 xs0 54)) -∗ K ⟨⟩))
      ⊢ wp frame (wpE (defs₀ (F := F)) Variants.none c none) E (cc0_cast_transpose i arg1 harg1 arg2 harg2 arg3 harg3 arg4 harg4 arg5 harg5 arg6 harg6 arg7 harg7) K := by
  simp only [cc0_cast_transpose_eq_skeleton]; unfold cc0_cast_transpose_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%fs0, %hfs0, HS0⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact (read_loop3 ..).trans (congrArg₂ codesOf (by sl_unfold_words; unfold expOf; simp only [View.readAt_eq_ld, harg1.read_unread, View.ld_unit_zero (S := S1x16) hz]) (harg2.read_unread _))
  isplitl [H3]
  · iexists _; isplitr; swap; · iexact H3
    ipureintro
    exact (read_loop4 ..).trans (congrArg₂ codesTOf (by sl_unfold_words; unfold expOf; simp only [View.readAt_eq_ld, harg1.read_unread, View.ld_unit_zero (S := S1x16) hz]) (harg2.read_unread _))
  isplitl [H4]
  · iexists _; isplitr; swap; · iexact H4
    ipureintro
    exact hf4
  isplitl [H5]
  · iexists _; isplitr; swap; · iexact H5
    ipureintro
    exact hf5
  iexists _; isplitr; swap; · iexact HS0
  ipureintro
  exact (read_loop7 ..).trans (congrArg₂ (fun x a => accFold x a 54) (harg2.read_unread _) hfs0)

set_option maxHeartbeats 4000000 in
/-- The last point. -/
theorem body_C (c : Dev nD) (i : grid0.Coords) (arg1 : Memref sig .tc .vmem S1x16 .f32) (harg1 : arg1.IsWhole) (arg2 : Memref sig .tc .vmem S512x6912 .bf16) (harg2 : arg2.IsWhole) (arg3 : Memref sig .tc .vmem S512x6912 .fp8e4m3) (harg3 : arg3.IsWhole) (arg4 : Memref sig .tc .vmem S6912x512 .fp8e4m3) (harg4 : arg4.IsWhole) (arg5 : Memref sig .tc .vmem S1x1 .f32) (harg5 : arg5.IsWhole) (arg6 : Memref sig .tc .vmem S1x1 .f32) (harg6 : arg6.IsWhole) (arg7 : Memref sig .tc .vmem S16x128 .bf16) (harg7 : arg7.IsWhole)
    (hc0 : ¬k0_cond1 i = 1#1) (hc1 : k0_cond2 i = 1#1) (x0 : Vec F S1x16 .f32) (x1 : Vec F S512x6912 .bf16) (d5 d6 : Vec F S1x1 .f32) (xs0 : Vec F S16x128 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare d5 ∗ owns (c : Thread nD τ) arg6 fullShare d6 ∗ owns (c : Thread nD τ) arg7 fullShare xs0
        ∗ (iprop(owns (c : Thread nD τ) arg1 fullShare x0 ∗ owns (c : Thread nD τ) arg2 fullShare x1 ∗ owns (c : Thread nD τ) arg3 fullShare (codesOf (expOf x0) x1) ∗ owns (c : Thread nD τ) arg4 fullShare (codesTOf (expOf x0) x1) ∗ owns (c : Thread nD τ) arg5 fullShare d5 ∗ owns (c : Thread nD τ) arg6 fullShare (k0_pay7 (accFold x1 xs0 54)) ∗ owns (c : Thread nD τ) arg7 fullShare (accFold x1 xs0 54)) -∗ K ⟨⟩))
      ⊢ wp frame (wpE (defs₀ (F := F)) Variants.none c none) E (cc0_cast_transpose i arg1 harg1 arg2 harg2 arg3 harg3 arg4 harg4 arg5 harg5 arg6 harg6 arg7 harg7) K := by
  simp only [cc0_cast_transpose_eq_skeleton]; unfold cc0_cast_transpose_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%fs0, %hfs0, HS0⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact (read_loop3 ..).trans (congrArg₂ codesOf (by sl_unfold_words; unfold expOf; simp only [View.readAt_eq_ld, harg1.read_unread, View.ld_unit_zero (S := S1x16) hz]) (harg2.read_unread _))
  isplitl [H3]
  · iexists _; isplitr; swap; · iexact H3
    ipureintro
    exact (read_loop4 ..).trans (congrArg₂ codesTOf (by sl_unfold_words; unfold expOf; simp only [View.readAt_eq_ld, harg1.read_unread, View.ld_unit_zero (S := S1x16) hz]) (harg2.read_unread _))
  isplitl [H4]
  · iexists _; isplitr; swap; · iexact H4
    ipureintro
    exact hf4
  isplitl [H5]
  · iexists _; isplitr; swap; · iexact H5
    ipureintro
    refine (read_whole1 ..).trans (congrArg k0_pay7 ?_)
    sl_unfold_words
    rw [View.readAt_eq_ld]
    refine (View.ld_unit_zero (S := S16x128) hz _ _).trans ?_
    exact (read_loop7 ..).trans (congrArg₂ (fun x a => accFold x a 54) (harg2.read_unread _) hfs0)
  iexists _; isplitr; swap; · iexact HS0
  ipureintro
  exact (read_loop7 ..).trans (congrArg₂ (fun x a => accFold x a 54) (harg2.read_unread _) hfs0)

end Cert.KernelIdeal.Hand

end
-- ==== Proof.Run.lean ====
/-
  The kernel's run: the body at every grid point leaves the codes of its block, the scale, the running block of magnitudes
  and, at the last point, the largest magnitude; from any memory with zero counters the run ends with every result array
  at what the points wrote back and with the arguments unchanged.
-/
module

public import proofs.«01_k».proof.Proof.Body
public import Idealize.ShloMosaic.Lib.Pipeline.FrameBody
public import Idealize.ShloMosaic.Lib.Pipeline.FrameSuffix
public import Idealize.ShloMosaic.Lib.WordCmp
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the conditionals are taken -/

theorem cond1_iff : ∀ t : Fin cfg0.N, k0_cond1 (grid0.coords t) = 1#1 ↔ t.val = 0 :=
  (fun t => by
    have ht : t.val < 62 := Nat.lt_of_lt_of_eq t.isLt N_0
    have e0 : (grid0.coords t 0).val = t.val / 1 % 62 := Pipeline.Grid.coords_val t 0 (by decide) rfl
    simp only [k0_cond1, e0]
    word_cmp
   : ∀ t : Fin grid0.N, k0_cond1 (grid0.coords t) = 1#1 ↔ t.val = 0)

theorem cond2_iff : ∀ t : Fin cfg0.N, k0_cond2 (grid0.coords t) = 1#1 ↔ t.val = 61 :=
  (fun t => by
    have ht : t.val < 62 := Nat.lt_of_lt_of_eq t.isLt N_0
    have e0 : (grid0.coords t 0).val = t.val / 1 % 62 := Pipeline.Grid.coords_val t 0 (by decide) rfl
    simp only [k0_cond2, e0]
    word_cmp
   : ∀ t : Fin grid0.N, k0_cond2 (grid0.coords t) = 1#1 ↔ t.val = 61)

theorem idle4_false (t : Fin cfg0.N) (h : t.val = 0) : cfg0.idle 4 (cfg0.grid.coords t) = false := by
  show (!(k0_cond1 (grid0.coords t) == 1#1)) = false
  rw [(cond1_iff t).mpr h]; rfl
theorem idle4_true (t : Fin cfg0.N) (h : t.val ≠ 0) : cfg0.idle 4 (cfg0.grid.coords t) = true := by
  show (!(k0_cond1 (grid0.coords t) == 1#1)) = true
  rw [beq_eq_false_iff_ne.mpr (fun e => h ((cond1_iff t).mp e))]; rfl
theorem idle5_false (t : Fin cfg0.N) (h : t.val = 61) : cfg0.idle 5 (cfg0.grid.coords t) = false := by
  show (!(k0_cond2 (grid0.coords t) == 1#1)) = false
  rw [(cond2_iff t).mpr h]; rfl
theorem idle5_true (t : Fin cfg0.N) (h : t.val ≠ 61) : cfg0.idle 5 (cfg0.grid.coords t) = true := by
  show (!(k0_cond2 (grid0.coords t) == 1#1)) = true
  rw [beq_eq_false_iff_ne.mpr (fun e => h ((cond2_iff t).mp e))]; rfl

theorem flush4_false (t : Fin cfg0.N) (h : t.val ≠ 61) : (cfg0.win 4).flush t = false := by
  have ht : t.val < 62 := Nat.lt_of_lt_of_eq t.isLt N_0
  exact Bool.eq_false_iff.mpr fun e => h (by have := (flush0_4 t).mp e; omega)
theorem flush5_false (t : Fin cfg0.N) (h : t.val ≠ 61) : (cfg0.win 5).flush t = false := by
  have ht : t.val < 62 := Nat.lt_of_lt_of_eq t.isLt N_0
  exact Bool.eq_false_iff.mpr fun e => h (by have := (flush0_5 t).mp e; omega)

/-! ## The values -/

/-- The history of magnitudes, as every point's first window holds it. -/
def hist (c : Dev nD) : Vec F S1x16 .f32 := iblk m c 0 ⟨0, by rw [show cfg0.N = 62 from N_0]; decide⟩

theorem iblk0_eq (c : Dev nD) (t : Fin cfg0.N) : (iblk m c 0 t : Vec F S1x16 .f32) = hist m c := rfl

/-- The second window's block at a grid point. -/
def blk1 (c : Dev nD) (t : Fin cfg0.N) : Vec F S512x6912 .bf16 := iblk m c 1 t

/-- The block of 512 rows point `n` reads. -/
def rows (c : Dev nD) (n : ℕ) : Vec F S512x6912 .bf16 := blk1 m c ⟨n % cfg0.N, Nat.mod_lt _ (by rw [show cfg0.N = 62 from N_0]; decide)⟩

theorem iblk1_eq (c : Dev nD) (t : Fin cfg0.N) : (iblk m c 1 t : Vec F S512x6912 .bf16) = rows m c t.val := by
  have e : t = ⟨t.val % cfg0.N, Nat.mod_lt _ (by rw [show cfg0.N = 62 from N_0]; decide)⟩ := Fin.ext (Nat.mod_eq_of_lt t.isLt).symm
  exact congrArg (blk1 m c) e

/-- The running block of magnitudes before point `n`. -/
def accOn (c : Dev nD) : ℕ → Vec F S16x128 .bf16
  | 0 => k0_pay2
  | n + 1 => accFold (rows m c n) (accOn c n) 54

/-! ## The proof data -/

abbrev ms0_0 (t : Fin cfg0.N) : Memref sig .tc .vmem S1x16 .f32 := win0_0.stage (cfg0.slots t 0)
abbrev ms0_1 (t : Fin cfg0.N) : Memref sig .tc .vmem S512x6912 .bf16 := win0_1.stage (cfg0.slots t 1)
abbrev ms0_2 (t : Fin cfg0.N) : Memref sig .tc .vmem S512x6912 .fp8e4m3 := win0_2.stage (cfg0.slots t 2)
abbrev ms0_3 (t : Fin cfg0.N) : Memref sig .tc .vmem S6912x512 .fp8e4m3 := win0_3.stage (cfg0.slots t 3)
abbrev ms0_4 (t : Fin cfg0.N) : Memref sig .tc .vmem S1x1 .f32 := win0_4.stage (cfg0.slots t 4)
abbrev ms0_5 (t : Fin cfg0.N) : Memref sig .tc .vmem S1x1 .f32 := win0_5.stage (cfg0.slots t 5)
/-- The scratch the kernel carries between points. -/
abbrev scM0_0 : Memref sig .tc .vmem S16x128 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The invariant before position `n`: before the first point the scratch at anything, afterwards at the running block. -/
def PhiS (c : Dev nD) : (n : ℕ) → n ≤ cfg0.N → sProp 𝕄
  | 0, _ => Pipeline.ΦA spec0 c
  | n + 1, _ => iprop(owns (c : Thread nD τ) scM0_0 fullShare (accOn m c (n + 1)) ∗ (∃ r, prngReg c r))

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) :
    PhiS m c n h = iprop(owns (c : Thread nD τ) scM0_0 fullShare (accOn m c n) ∗ (∃ r, prngReg c r)) := by
  cases n with
  | zero => exact absurd rfl hz
  | succ n => rfl

/-- After the body at point `t`: the inputs' buffers at their blocks, the codes of the point's rows, the scale and the largest
    magnitude (the latter two stored at one point only and kept). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => codesOf (expOf (hist m c)) (rows m c t.val)
    | ⟨3, _⟩ => codesTOf (expOf (hist m c)) (rows m c t.val)
    | ⟨4, _⟩ => scaleOf (hist m c)
    | ⟨5, _⟩ => k0_pay7 (accOn m c 62)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = codesOf (expOf (hist m c)) (rows m c t.val) := by dsimp only [dats]
theorem after0_3 (c : Dev nD) (t : Fin cfg0.N) : (dats m 0 c).after 3 t = codesTOf (expOf (hist m c)) (rows m c t.val) := by dsimp only [dats]
theorem after0_4 (c : Dev nD) (t : Fin cfg0.N) : (dats m 0 c).after 4 t = scaleOf (hist m c) := by dsimp only [dats]
theorem after0_5 (c : Dev nD) (t : Fin cfg0.N) : (dats m 0 c).after 5 t = k0_pay7 (accOn m c 62) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The scale's buffer keeps, after the first point, the scale stored there. -/
theorem before0_4 (c : Dev nD) : ∀ (n : ℕ) (hn : n + 1 < cfg0.N) (d), (dats m 0 c).before 4 ⟨n + 1, hn⟩ d = scaleOf (hist m c)
  | n, hn, d => by
    have hN : cfg0.N = 62 := N_0
    rw [(dats m 0 c).before_of_pos 4 ⟨n + 1, hn⟩ (Nat.succ_ne_zero n) rfl d]
    show (if (cfg0.win 4).flush ⟨n, _⟩ then d else (dats m 0 c).left 4 ⟨n, _⟩ d) = _
    rw [flush4_false ⟨n, _⟩ (by show n ≠ 61; omega), if_neg Bool.false_ne_true]
    unfold Dat.left
    cases n with
    | zero => rw [idle4_false ⟨0, _⟩ rfl]; rfl
    | succ n =>
      rw [idle4_true ⟨n + 1, _⟩ (Nat.succ_ne_zero n)]
      exact before0_4 c n _ d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [iblk0_eq, iblk1_eq]
  have hN : t.val < 62 := lt_of_lt_of_eq t.isLt (show cfg0.N = 62 from N_0)
  rw [PhiS_castSucc m c t]
  by_cases h0 : t.val = 0
  · have h1 : t.val ≠ 61 := by omega
    rw [PhiS_zero m c _ _ h0, PhiA0_eq]
    rw [show (dats m 0 c).leavesExact 4 t = owns (c : Thread nD τ) (ms0_4 t) fullShare ((dats m 0 c).after 4 t) from by
      unfold Dat.leavesExact; rw [idle4_false t h0], after0_4]
    rw [(dats m 0 c).leavesExact_idle 5 t (idle5_true t h1) (flush5_false t h1)]
    have hacc : accOn m c (t.val + 1) = accFold (rows m c t.val) k0_pay2 54 := by rw [h0]; rfl
    rw [hacc]
    iintro ⟨⟨HS0, Hg⟩, Ho, ⟨%d0, H0⟩, ⟨%d1, H1⟩, ⟨%d2, H2⟩, ⟨%d3, H3⟩, ⟨%d4, H4⟩, ⟨%d5, H5⟩⟩
    iapply (body_A c (grid0.coords t) _ _ _ _ _ _ _ _ _ _ _ _ scM0_0 (Memref.isWhole_whole _) ((cond1_iff t).mpr h0) (fun h => h1 ((cond2_iff t).mp h)) (hist m c) (rows m c t.val) _ _ Set.univ _)
    isplitl [H0]; · iexact H0
    isplitl [H1]; · iexact H1
    isplitl [H2]; · iexists _; iexact H2
    isplitl [H3]; · iexists _; iexact H3
    isplitl [H4]; · iexact H4
    isplitl [H5]; · iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hacc : accOn m c (t.val + 1) = accFold (rows m c t.val) (accOn m c t.val) 54 := rfl
    rw [hacc, PhiS_pos m c _ _ h0]
    by_cases h1 : t.val = 61
    · have hb : ∀ d, (dats m 0 c).before 4 t d = scaleOf (hist m c) := fun d => by
        obtain ⟨n, hn⟩ := t
        obtain ⟨k, rfl⟩ : ∃ k, n = k + 1 := ⟨n - 1, by dsimp only at h0; omega⟩
        exact before0_4 m c k hn d
      rw [show (dats m 0 c).leavesExact 4 t = owns (c : Thread nD τ) (ms0_4 t) fullShare ((dats m 0 c).after 4 t) from by
        unfold Dat.leavesExact; rw [idle4_true t h0, (flush0_4 t).mpr (by omega)], after0_4]
      rw [show (dats m 0 c).leavesExact 5 t = owns (c : Thread nD τ) (ms0_5 t) fullShare ((dats m 0 c).after 5 t) from by
        unfold Dat.leavesExact; rw [idle5_false t h1], after0_5]
      have hfin : (k0_pay7 (accOn m c 62) : Vec F S1x1 .f32) = k0_pay7 (accFold (rows m c t.val) (accOn m c t.val) 54) := by rw [h1]; rfl
      rw [hfin]
      simp only [hb]
      iintro ⟨⟨HS0, Hg⟩, Ho, ⟨%d0, H0⟩, ⟨%d1, H1⟩, ⟨%d2, H2⟩, ⟨%d3, H3⟩, ⟨%d4, H4⟩, ⟨%d5, H5⟩⟩
      iapply (body_C c (grid0.coords t) _ _ _ _ _ _ _ _ _ _ _ _ scM0_0 (Memref.isWhole_whole _) (fun h => h0 ((cond1_iff t).mp h)) ((cond2_iff t).mpr h1) (hist m c) (rows m c t.val) _ _ (accOn m c t.val) Set.univ _)
      isplitl [H0]; · iexact H0
      isplitl [H1]; · iexact H1
      isplitl [H2]; · iexists _; iexact H2
      isplitl [H3]; · iexists _; iexact H3
      isplitl [H4]; · iexact H4
      isplitl [H5]; · iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [(dats m 0 c).leavesExact_idle 4 t (idle4_true t h0) (flush4_false t h1)]
      rw [(dats m 0 c).leavesExact_idle 5 t (idle5_true t h1) (flush5_false t h1)]
      iintro ⟨⟨HS0, Hg⟩, Ho, ⟨%d0, H0⟩, ⟨%d1, H1⟩, ⟨%d2, H2⟩, ⟨%d3, H3⟩, ⟨%d4, H4⟩, ⟨%d5, H5⟩⟩
      iapply (body_B c (grid0.coords t) _ _ _ _ _ _ _ _ _ _ _ _ scM0_0 (Memref.isWhole_whole _) (fun h => h0 ((cond1_iff t).mp h)) (fun h => h1 ((cond2_iff t).mp h)) (hist m c) (rows m c t.val) _ _ (accOn m c t.val) Set.univ _)
      isplitl [H0]; · iexact H0
      isplitl [H1]; · iexact H1
      isplitl [H2]; · iexists _; iexact H2
      isplitl [H3]; · iexists _; iexact H3
      isplitl [H4]; · iexact H4
      isplitl [H5]; · iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 62 := N_0; omega)

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c))⟩) (run_main m ρ)

/-- The frame: the arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Hand

end
-- ==== Proof.Arrays.lean ====
/-
  What the kernel's result arrays hold after the run, as functions of the two argument arrays: the codes by rows, the codes
  by columns, the scale, and the largest magnitude.
-/
module

public import proofs.«01_k».proof.Proof.Run
public import Idealize.ShloMosaic.Lib.Pipeline.Value
public import Idealize.ShloMosaic.Lib.StableHlo.RunRead

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The tensor as one matrix of 31744 rows. -/
def xAll (c : Dev nD) : Vec F S31744x6912 .bf16 :=
  shapeCast S31744x6912 (m ((c : Thread nD τ).loc main_arg0) : Vec F S31x1024x6912 .bf16) shapeCasts_S31x1024x6912_S31744x6912

theorem V_main_v0 (c : Dev nD) : V m c main_v0 = xAll m c := by
  show StableHlo.after hostOps0 (fun b => m (c, b)) (Proc.devRef .tc main_v0) = _
  unfold xAll
  after_reads_simp
  try rfl

theorem V_main_v1 (c : Dev nD) : V m c main_v1
    = shapeCast S1x16 (m ((c : Thread nD τ).loc main_arg1) : Vec F S16 .f32) shapeCasts_S16_S1x16 := by
  show StableHlo.after hostOps0 (fun b => m (c, b)) (Proc.devRef .tc main_v1) = _
  after_reads_simp
  try rfl

/-- The history window reads the whole history. -/
theorem hist_eq (c : Dev nD) : hist m c = shapeCast S1x16 (m ((c : Thread nD τ).loc main_arg1) : Vec F S16 .f32) shapeCasts_S16_S1x16 := by
  rw [← V_main_v1]
  unfold hist iblk
  have hN : 0 < cfg0.N := by rw [show cfg0.N = 62 from N_0]; decide
  have hz' : (fun a => win0_0.index ⟨0, hN⟩ a * main_v1.ty.shape.size a) = fun _ => 0 := funext fun a => by fin_cases a <;> rfl
  exact Memref.read_access_unit_zero (Elt F) main_v1 hz' (fun a => by rw [congrFun hz' a]; simp) (V m c main_v1)

theorem idx_val (t : Fin cfg0.N) : (grid0.coords t 0).val = t.val := by
  have ht : t.val < 62 := Nat.lt_of_lt_of_eq t.isLt N_0
  have e0 : (grid0.coords t 0).val = t.val / 1 % 62 := Pipeline.Grid.coords_val t 0 (by decide) rfl
  omega

theorem idx_nat (t : Fin cfg0.N) : (BitVec.ofNat 32 (grid0.coords t 0).val).toNat = t.val := by
  have ht : t.val < 62 := Nat.lt_of_lt_of_eq t.isLt N_0
  rw [idx_val, BitVec.toNat_ofNat, Nat.mod_eq_of_lt (by omega)]

/-- Row `r` of point `n`'s block is row `512 n + r` of the matrix. -/
theorem rows_apply (c : Dev nD) (n : ℕ) (hn : n < 62) (y : S512x6912.Idx) (h : 512 * n + (y 0).val < 31744) :
    rows m c n y = xAll m c (ix2 ⟨512 * n + (y 0).val, h⟩ (y 1)) := by
  rw [← V_main_v0]
  unfold rows blk1 iblk
  rw [View.read_apply]
  show V m c main_v0 _ = V m c main_v0 _
  congr 1
  have hN : cfg0.N = 62 := N_0
  have hv : (⟨n % cfg0.N, Nat.mod_lt _ (by rw [hN]; decide)⟩ : Fin cfg0.N).val = n := by
    show n % cfg0.N = n
    rw [hN]; omega
  funext a
  apply Fin.ext
  match a with
  | ⟨0, _⟩ =>
    show (BitVec.ofNat 32 (grid0.coords _ 0).val).toNat * 512 + 1 * (y 0).val = 512 * n + (y 0).val
    rw [idx_nat, hv]; omega
  | ⟨1, _⟩ => show 0 * 6912 + 1 * (y 1).val = (y 1).val; omega

/-- The codes by rows. -/
def qAll (c : Dev nD) : Vec F S31744x6912 .fp8e4m3 := fun y => code (invOf (expOf (hist m c))) (xAll m c y)

/-- The codes by columns. -/
def qtAll (c : Dev nD) : Vec F S6912x31744 .fp8e4m3 := fun y => code (invOf (expOf (hist m c))) (xAll m c (ix2 (y 1) (y 0)))

theorem flushed2_eq (c : Dev nD) (t : Fin cfg0.N) (hf : (cfg0.win 2).flush t = true) :
    (dats m 0 c).flushed 2 t = ((cfg0.win 2).blk t).view.read (Elt F) (qAll m c : Buf (Elt F) ((c : Thread nD τ).loc main_v2_0)) := by
  have ht : t.val < 62 := Nat.lt_of_lt_of_eq t.isLt N_0
  show (cfg0.win 2).cut (grid0.coords t) ((dats m 0 c).after 2 t) = _
  rw [after0_2]
  funext y
  rw [View.read_apply]
  have hy0 : (y 0).val < 512 := (y 0).isLt
  have hy1 : (y 1).val < 6912 := (y 1).isLt
  show code (invOf (expOf (hist m c))) (rows m c t.val (ix2 ⟨(y 0).val, hy0⟩ ⟨(y 1).val, hy1⟩)) = code (invOf (expOf (hist m c))) (xAll m c _)
  rw [rows_apply m c t.val ht _ (by show 512 * t.val + (y 0).val < 31744; omega)]
  congr 2
  funext a
  apply Fin.ext
  match a with
  | ⟨0, _⟩ =>
    show 512 * t.val + (y 0).val = (BitVec.ofNat 32 (grid0.coords t 0).val).toNat * 512 + 1 * (y 0).val
    rw [idx_nat]; omega
  | ⟨1, _⟩ => show (y 1).val = 0 * 6912 + 1 * (y 1).val; omega

theorem final2 (c : Dev nD) : (dats m 0 c).arrAt 2 cfg0.N = (qAll m c : Buf (Elt F) ((c : Thread nD τ).loc main_v2_0)) :=
  (dats m 0 c).arrAt_eq_of_cover 2 _ (flushed2_eq m c) fun (i : main_v2_0.ty.Idx) => by
    have h0 : (i 0 : Nat) < 31744 := (i 0).isLt
    have h1 : (i 1 : Nat) < 6912 := (i 1).isLt
    have hN : cfg0.N = 62 := N_0
    have hlt : (i 0).val / 512 < cfg0.N := by rw [hN]; omega
    refine ⟨⟨(i 0).val / 512, hlt⟩, flush0_2 _, ?_⟩
    show i ∈ ((View.whole main_v2_0).slice (win0_2.rect ⟨(i 0).val / 512, hlt⟩)).set
    rw [View.set_slice_whole, Rect.mem_set_unit]
    intro a
    match a with
    | ⟨0, _⟩ =>
      show (BitVec.ofNat 32 (grid0.coords _ 0).val).toNat * 512 ≤ (i 0 : Nat) ∧ (i 0 : Nat) < (BitVec.ofNat 32 (grid0.coords _ 0).val).toNat * 512 + 512
      rw [idx_nat]; dsimp only; omega
    | ⟨1, _⟩ =>
      show 0 * 6912 ≤ (i 1 : Nat) ∧ (i 1 : Nat) < 0 * 6912 + 6912
      omega

theorem flushed3_eq (c : Dev nD) (t : Fin cfg0.N) (hf : (cfg0.win 3).flush t = true) :
    (dats m 0 c).flushed 3 t = ((cfg0.win 3).blk t).view.read (Elt F) (qtAll m c : Buf (Elt F) ((c : Thread nD τ).loc main_v2_1)) := by
  have ht : t.val < 62 := Nat.lt_of_lt_of_eq t.isLt N_0
  show (cfg0.win 3).cut (grid0.coords t) ((dats m 0 c).after 3 t) = _
  rw [after0_3]
  funext y
  rw [View.read_apply]
  have hy0 : (y 0).val < 6912 := (y 0).isLt
  have hy1 : (y 1).val < 512 := (y 1).isLt
  show code (invOf (expOf (hist m c))) (rows m c t.val (ix2 ⟨(y 1).val, hy1⟩ ⟨(y 0).val, hy0⟩)) = code (invOf (expOf (hist m c))) (xAll m c _)
  rw [rows_apply m c t.val ht _ (by show 512 * t.val + (y 1).val < 31744; omega)]
  congr 2
  funext a
  apply Fin.ext
  match a with
  | ⟨0, _⟩ =>
    show 512 * t.val + (y 1).val = (BitVec.ofNat 32 (grid0.coords t 0).val).toNat * 512 + 1 * (y 1).val
    rw [idx_nat]; omega
  | ⟨1, _⟩ => show (y 0).val = 0 * 6912 + 1 * (y 0).val; omega

theorem final3 (c : Dev nD) : (dats m 0 c).arrAt 3 cfg0.N = (qtAll m c : Buf (Elt F) ((c : Thread nD τ).loc main_v2_1)) :=
  (dats m 0 c).arrAt_eq_of_cover 3 _ (flushed3_eq m c) fun (i : main_v2_1.ty.Idx) => by
    have h0 : (i 0 : Nat) < 6912 := (i 0).isLt
    have h1 : (i 1 : Nat) < 31744 := (i 1).isLt
    have hN : cfg0.N = 62 := N_0
    have hlt : (i 1).val / 512 < cfg0.N := by rw [hN]; omega
    refine ⟨⟨(i 1).val / 512, hlt⟩, flush0_3 _, ?_⟩
    show i ∈ ((View.whole main_v2_1).slice (win0_3.rect ⟨(i 1).val / 512, hlt⟩)).set
    rw [View.set_slice_whole, Rect.mem_set_unit]
    intro a
    match a with
    | ⟨0, _⟩ =>
      show 0 * 6912 ≤ (i 0 : Nat) ∧ (i 0 : Nat) < 0 * 6912 + 6912
      omega
    | ⟨1, _⟩ =>
      show (BitVec.ofNat 32 (grid0.coords _ 0).val).toNat * 512 ≤ (i 1 : Nat) ∧ (i 1 : Nat) < (BitVec.ofNat 32 (grid0.coords _ 0).val).toNat * 512 + 512
      rw [idx_nat]; dsimp only; omega

theorem flushed4_eq (c : Dev nD) (t : Fin cfg0.N) (hf : (cfg0.win 4).flush t = true) :
    (dats m 0 c).flushed 4 t = ((cfg0.win 4).blk t).view.read (Elt F) (scaleOf (hist m c) : Buf (Elt F) ((c : Thread nD τ).loc main_v2_2)) := by
  show (cfg0.win 4).cut (grid0.coords t) ((dats m 0 c).after 4 t) = _
  rw [after0_4]
  have hz' : (fun a => win0_4.index t a * main_v2_2.ty.shape.size a) = fun _ => 0 := funext fun a => by fin_cases a <;> rfl
  exact (Memref.read_access_unit_zero (Elt F) main_v2_2 hz' (fun a => by rw [congrFun hz' a]; simp) (scaleOf (hist m c))).symm

theorem flushed5_eq (c : Dev nD) (t : Fin cfg0.N) (hf : (cfg0.win 5).flush t = true) :
    (dats m 0 c).flushed 5 t = ((cfg0.win 5).blk t).view.read (Elt F) (k0_pay7 (accOn m c 62) : Buf (Elt F) ((c : Thread nD τ).loc main_v2_3)) := by
  show (cfg0.win 5).cut (grid0.coords t) ((dats m 0 c).after 5 t) = _
  rw [after0_5]
  have hz' : (fun a => win0_5.index t a * main_v2_3.ty.shape.size a) = fun _ => 0 := funext fun a => by fin_cases a <;> rfl
  exact (Memref.read_access_unit_zero (Elt F) main_v2_3 hz' (fun a => by rw [congrFun hz' a]; simp) (k0_pay7 (accOn m c 62))).symm

theorem final4 (c : Dev nD) : (dats m 0 c).arrAt 4 cfg0.N = (scaleOf (hist m c) : Buf (Elt F) ((c : Thread nD τ).loc main_v2_2)) :=
  (dats m 0 c).arrAt_eq_of_cover 4 _ (flushed4_eq m c) fun (i : main_v2_2.ty.Idx) => by
    have h0 : (i 0 : Nat) < 1 := (i 0).isLt
    have h1 : (i 1 : Nat) < 1 := (i 1).isLt
    have hN : cfg0.N = 62 := N_0
    have hlt : 61 < cfg0.N := by rw [hN]; omega
    refine ⟨⟨61, hlt⟩, (flush0_4 _).mpr rfl, ?_⟩
    show i ∈ ((View.whole main_v2_2).slice (win0_4.rect ⟨61, hlt⟩)).set
    rw [View.set_slice_whole, Rect.mem_set_unit]
    intro a
    match a with
    | ⟨0, _⟩ => show 0 * 1 ≤ (i 0 : Nat) ∧ (i 0 : Nat) < 0 * 1 + 1; omega
    | ⟨1, _⟩ => show 0 * 1 ≤ (i 1 : Nat) ∧ (i 1 : Nat) < 0 * 1 + 1; omega

theorem final5 (c : Dev nD) : (dats m 0 c).arrAt 5 cfg0.N = (k0_pay7 (accOn m c 62) : Buf (Elt F) ((c : Thread nD τ).loc main_v2_3)) :=
  (dats m 0 c).arrAt_eq_of_cover 5 _ (flushed5_eq m c) fun (i : main_v2_3.ty.Idx) => by
    have h0 : (i 0 : Nat) < 1 := (i 0).isLt
    have h1 : (i 1 : Nat) < 1 := (i 1).isLt
    have hN : cfg0.N = 62 := N_0
    have hlt : 61 < cfg0.N := by rw [hN]; omega
    refine ⟨⟨61, hlt⟩, (flush0_5 _).mpr rfl, ?_⟩
    show i ∈ ((View.whole main_v2_3).slice (win0_5.rect ⟨61, hlt⟩)).set
    rw [View.set_slice_whole, Rect.mem_set_unit]
    intro a
    match a with
    | ⟨0, _⟩ => show 0 * 1 ≤ (i 0 : Nat) ∧ (i 0 : Nat) < 0 * 1 + 1; omega
    | ⟨1, _⟩ => show 0 * 1 ≤ (i 1 : Nat) ∧ (i 1 : Nat) < 0 * 1 + 1; omega

/-- The scale as the program returns it. -/
def scaleAll (c : Dev nD) : Vec F S_ .f32 := shapeCast S_ (scaleOf (hist m c)) shapeCasts_S1x1_S_

/-- The largest magnitude as the program returns it. -/
def amaxAll (c : Dev nD) : Vec F S_ .f32 := shapeCast S_ (k0_pay7 (accOn m c 62)) shapeCasts_S1x1_S_

theorem tail_v3 (c : Dev nD) : Pipeline.afterTail₀ cfgs (dats m) 0 (V0 m) [hostOps1] c main_v3 = scaleAll m c := by
  have e := Pipeline.withArrays_arr spec0 (by decide) c (V0 m c) (fun w => (dats m 0 c).arrAt w cfg0.N) 4
  unfold scaleAll
  rw [← final4]
  show StableHlo.after hostOps1 (Pipeline.withArrays spec0 c (V0 m c) fun w => (dats m 0 c).arrAt w cfg0.N) (Proc.devRef .tc main_v3) = _
  after_reads_simp
  exact congrArg (fun v => shapeCast S_ (v : Vec F S1x1 .f32) shapeCasts_S1x1_S_) e

theorem tail_v4 (c : Dev nD) : Pipeline.afterTail₀ cfgs (dats m) 0 (V0 m) [hostOps1] c main_v4 = amaxAll m c := by
  have e := Pipeline.withArrays_arr spec0 (by decide) c (V0 m c) (fun w => (dats m 0 c).arrAt w cfg0.N) 5
  unfold amaxAll
  rw [← final5]
  show StableHlo.after hostOps1 (Pipeline.withArrays spec0 c (V0 m c) fun w => (dats m 0 c).arrAt w cfg0.N) (Proc.devRef .tc main_v4) = _
  after_reads_simp
  exact congrArg (fun v => shapeCast S_ (v : Vec F S1x1 .f32) shapeCasts_S1x1_S_) e

/-- The run, read: the four results and the arguments. -/
theorem run_values : θ_run defs (onTc (τ := τ) (main (F := F))) ⟨m, fun _ => 0, ρ⟩ (fun r => ∀ c : Dev nD,
      r.2.mem ((c.tc : Thread nD τ).loc main_v2_0) = qAll m c
      ∧ r.2.mem ((c.tc : Thread nD τ).loc main_v2_1) = qtAll m c
      ∧ r.2.mem ((c.tc : Thread nD τ).loc main_v3) = scaleAll m c
      ∧ r.2.mem ((c.tc : Thread nD τ).loc main_v4) = amaxAll m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 2).trans (final2 m c), ((h c).1 3).trans (final3 m c),
     ((h c).2 main_v3 (Pipeline.mem_restRefs_of main_v3 (by decide) (by decide))).trans (tail_v3 m c),
     ((h c).2 main_v4 (Pipeline.mem_restRefs_of main_v4 (by decide) (by decide))).trans (tail_v4 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.KernelIdeal.Hand

end
-- ==== Proof.RefHost.lean ====
/-
  What the reference's host operations leave for its region and as results, as functions of the two argument arrays.
-/
module

public import proofs.«01_k».proof.Proof.Gen.ReferenceIdeal.Value
public import Idealize.ShloMosaic.Lib.Pipeline.Value
public import Idealize.ShloMosaic.Lib.StableHlo.RunRead
public import Idealize.ShloMosaic.Lib.ValueIdx

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem
open Idealize.ShloMosaic.ValueIdx
open Idealize.ShloMosaic.Pipeline (Dat)

variable {F : FTy → Type} [FloatOps F]

/-! ## The host's expressions -/

/-- The tensor as one matrix. -/
def matOf (x : Vec F S31x1024x6912 .bf16) : Vec F S31744x6912 .bf16 := shapeCast S31744x6912 x shapeCasts_S31x1024x6912_S31744x6912

/-- The largest magnitude of the tensor. -/
def amaxOf (x : Vec F S31x1024x6912 .bf16) : Vec F S_ .f32 :=
  extf .f32 (Host.reduce FloatOps.maximumf (Host.absf (matOf x)) (constant S_ .bf16 0xFF80#16) reducesTo_S31744x6912_S_d0_1 h_S_ : Vec F S_ .bf16) bitsLt_bf16_f32

/-- The largest entry of the history. -/
def topOf (h : Vec F S16 .f32) : Vec F S_ .f32 := Host.reduce FloatOps.maximumf h (constant S_ .f32 0xFF800000#32) reducesTo_S16_S_d0 h_S_

/-- That entry over 448. -/
def ratioOf (h : Vec F S16 .f32) : Vec F S_ .f32 := mulf (topOf h) (constant S_ .f32 0x3B124925#32)

/-- The exponents −125 … 127. -/
def exponents : Vec F S253 .f32 := addf (broadcastInDim S253 ![] bcast_S_S253 (constant S_ .f32 0xC2FA0000#32)) (sitofp .f32 (iotaInDim S253 32 0))

/-- The least exponent whose power of two exceeds `|r|`, or 128. -/
def leastOf (r : Vec F S_ .f32) : Vec F S_ .f32 :=
  Host.reduce FloatOps.minimumf
    (select (cmpf .olt (broadcastInDim S253 ![] bcast_S_S253 (Host.absf r))
        (Host.powf (broadcastInDim S253 ![] bcast_S_S253 (constant S_ .f32 0x40000000#32)) exponents))
      exponents (broadcastInDim S253 ![] bcast_S_S253 (constant S_ .f32 0x43000000#32)))
    (constant S_ .f32 0x7F800000#32) reducesTo_S253_S_d0 h_S_

/-- The exponent `frexp` gives `r`. -/
def frexpOf (r : Vec F S_ .f32) : Vec F S_ .f32 :=
  select (ori (cmpf .oeq (Host.absf r) (constant S_ .f32 0x7F800000#32))
      (cmpf .olt (Host.absf r) (Host.powf (constant S_ .f32 0x40000000#32) (constant S_ .f32 0xC2FC0000#32))))
    (constant S_ .f32 0x00000000#32) (leastOf r)

/-- The scale's exponent. -/
def eOf (h : Vec F S16 .f32) : Vec F S_ .f32 :=
  select (cmpf .oeq (topOf h) (constant S_ .f32 0x00000000#32)) (constant S_ .f32 0x00000000#32) (frexpOf (ratioOf h))

/-- The power of two of exponent `e`, saturated outside single precision's normal range. -/
def twoTo (e : Vec F S_ .f32) : Vec F S_ .f32 :=
  select (cmpf .ogt e (constant S_ .f32 0x42FE0000#32)) (constant S_ .f32 0x7F800000#32)
    (select (cmpf .olt e (constant S_ .f32 0xC2FC0000#32)) (constant S_ .f32 0x00000000#32)
      (Host.powf (constant S_ .f32 0x40000000#32) e))

variable (m : (ℓ : Loc nD τ sig) → Buf (Elt F) ℓ) (ρ : Dev nD → PrngReg)

/-- The tensor argument. -/
abbrev xIn (c : Dev nD) : Vec F S31x1024x6912 .bf16 := m ((c : Thread nD τ).loc main_arg0)
/-- The history argument. -/
abbrev hIn (c : Dev nD) : Vec F S16 .f32 := m ((c : Thread nD τ).loc main_arg1)

set_option maxHeartbeats 4000000

theorem V_main_v0 (c : Dev nD) : V m c main_v0 = matOf (xIn m c) := by
  show StableHlo.after _ (fun b => m (c, b)) (Proc.devRef .tc main_v0) = _
  after_reads_simp
  try rfl

theorem V_main_v3 (c : Dev nD) : V m c main_v3 = amaxOf (xIn m c) := by
  show StableHlo.after _ (fun b => m (c, b)) (Proc.devRef .tc main_v3) = _
  after_reads_simp
  try rfl

theorem V_main_v24 (c : Dev nD) : V m c main_v24 = eOf (hIn m c) := by
  show StableHlo.after _ (fun b => m (c, b)) (Proc.devRef .tc main_v24) = _
  after_reads_simp
  try rfl

theorem V_main_v29 (c : Dev nD) : V m c main_v29 = twoTo (eOf (hIn m c)) := by
  show StableHlo.after _ (fun b => m (c, b)) (Proc.devRef .tc main_v29) = _
  after_reads_simp
  try rfl

theorem V_main_v36 (c : Dev nD) : V m c main_v36 = shapeCast S1x1 (twoTo (Host.negf (eOf (hIn m c)))) shapeCasts_S_S1x1 := by
  show StableHlo.after _ (fun b => m (c, b)) (Proc.devRef .tc main_v36) = _
  after_reads_simp
  try rfl

end Cert.ReferenceIdeal.Hand
-- ==== Proof.Maxima.lean ====
/-
  The two maxima.  The kernel's maximum of the history is the reference's; and the kernel's running block of magnitudes,
  reduced once more at the end, is the largest magnitude of the whole tensor.  Both sides are compared through the bounds
  they satisfy: two values with the same upper bounds are equal.
-/
module

public import proofs.«01_k».proof.Proof.Arrays
public import proofs.«01_k».proof.Proof.RefHost
public import Idealize.ShloMosaic.Lib.Pointwise
public import Idealize.ShloMosaic.Lib.Pointwise.Reduce
public import Idealize.ShloMosaic.Lib.ValueIdx
public import Idealize.ShloMosaic.Lib.ValueLayout
public import Idealize.ShloMosaic.Lib.ValueLayoutCasts
public import Idealize.ShloMosaic.PureOps.Ideal.Laws

@[expose] public section

set_option maxRecDepth 16384

noncomputable section

namespace Cert.Equation

open Idealize.ShloMosaic hiding ix0 ix1 ix2 ix3 eq_ix2
open Idealize.ShloMosaic.TcCoe Idealize.SL.Sem
open Idealize.ShloMosaic.ValueIdx
open Cert.KernelIdeal (S1x16 S1x1 S16 S_ S16x128 S512x128 S512x6912 S31744x6912 S31x1024x6912 S32x16x128)

theorem ofBits_neg_inf_f32 : Ideal.ofBits .f32 0xFF800000#32 = ⊥ := by simp [Ideal.ofBits, Ideal.ieee]
theorem ofBits_zero_f32 : Ideal.ofBits .f32 0x00000000#32 = 0 := by simp [Ideal.ofBits, Ideal.ieee]
theorem ofBits_neg_inf_bf16 : Ideal.ofBits .bf16 0xFF80#16 = ⊥ := by simp [Ideal.ofBits, Ideal.ieee]
theorem ofBits_zero_bf16 : Ideal.ofBits .bf16 0x0000#16 = 0 := by simp [Ideal.ofBits, Ideal.ieee]

/-! ## Reductions by the maximum, as folds -/

/-- Over the second axis of two. -/
theorem rowMax {n0 n1 : Nat} {φ : FTy} (src : FVec Ideal ⟨2, ![n0, n1]⟩ φ) (acc : BitVec φ.bits)
    (h : Shape.Reduces ⟨2, ![n0, n1]⟩ [1] ⟨1, ![n0]⟩) (hφ : FKind.Formats φ) (hacc : acc = FKind.maximumf.neutral φ hφ) (i : Fin n0) :
    (multiReduction .maximumf [1] ⟨1, ![n0]⟩ src acc h hφ hacc (ix1 i) : EReal)
      = (Finset.univ : Finset (Fin n1)).fold max (Ideal.ofBits φ acc) fun k => src (ix2 i k) := by
  rw [multiReduction_maximumf_eq_fold, Shape.Reduces.fold_fiber_r2_a1]
  rfl

/-- Over the first axis of two. -/
theorem colMax {n0 n1 : Nat} {φ : FTy} (src : FVec Ideal ⟨2, ![n0, n1]⟩ φ) (acc : BitVec φ.bits)
    (h : Shape.Reduces ⟨2, ![n0, n1]⟩ [0] ⟨1, ![n1]⟩) (hφ : FKind.Formats φ) (hacc : acc = FKind.maximumf.neutral φ hφ) (j : Fin n1) :
    (multiReduction .maximumf [0] ⟨1, ![n1]⟩ src acc h hφ hacc (ix1 j) : EReal)
      = (Finset.univ : Finset (Fin n0)).fold max (Ideal.ofBits φ acc) fun k => src (ix2 k j) := by
  rw [multiReduction_maximumf_eq_fold, Shape.Reduces.fold_fiber_r2_a0]
  rfl

/-- Over the first axis of three. -/
theorem layerMax {n0 n1 n2 : Nat} {φ : FTy} (src : FVec Ideal ⟨3, ![n0, n1, n2]⟩ φ) (acc : BitVec φ.bits)
    (h : Shape.Reduces ⟨3, ![n0, n1, n2]⟩ [0] ⟨2, ![n1, n2]⟩) (hφ : FKind.Formats φ) (hacc : acc = FKind.maximumf.neutral φ hφ)
    (i : Fin n1) (j : Fin n2) :
    (multiReduction .maximumf [0] ⟨2, ![n1, n2]⟩ src acc h hφ hacc (ix2 i j) : EReal)
      = (Finset.univ : Finset (Fin n0)).fold max (Ideal.ofBits φ acc) fun k => src (ix3 k i j) := by
  rw [multiReduction_maximumf_eq_fold, Shape.Reduces.fold_fiber_r3_a0]
  rfl

/-- Over every axis: bounded by `z` where every entry is. -/
theorem allMax_le {s t u : Shape} {axes : List (Fin s.rank)} [Subsingleton t.Idx] (x : FVec Ideal s .bf16) (b : FVec Ideal u .bf16) (h : s.ReducesTo axes t) (hu : 0 < u.numel)
    (j : t.Idx) (z : EReal) (hb : ∀ i, (b i : EReal) = ⊥) :
    (Host.reduce (FloatOps.maximumf : Ideal .bf16 → Ideal .bf16 → Ideal .bf16) x b h hu j : EReal) ≤ z ↔ ∀ i, (x i : EReal) ≤ z := by
  have e : (Host.reduce (FloatOps.maximumf : Ideal .bf16 → Ideal .bf16 → Ideal .bf16) x b h hu j : EReal)
      = (Finset.univ.filter fun i => h.drop i = j).fold max (b (Shape.Idx.first hu) : EReal) x :=
    Host.reduce_eq_fold (FloatOps.maximumf : Ideal .bf16 → Ideal .bf16 → Ideal .bf16) x b h hu j
  rw [e, hb, Finset.fold_max_le]
  exact ⟨fun h i => h.2 i (Finset.mem_filter.mpr ⟨Finset.mem_univ _, Subsingleton.elim _ _⟩), fun h => ⟨bot_le, fun i _ => h i⟩⟩

/-! ## The history -/

/-- The reference's maximum of the history, as a fold over its entries. -/
theorem topOf_eq (h : Vec Ideal S16 .f32) :
    Cert.ReferenceIdeal.Hand.topOf h ix0 = (Finset.univ : Finset (Fin 16)).fold max ⊥ fun k => h (ix1 k) := by
  unfold Cert.ReferenceIdeal.Hand.topOf
  rw [Host.reduce_eq_fold, Shape.ReducesTo.fold_fiber_r1_a0]
  show Finset.fold max (Ideal.ofBits .f32 0xFF800000#32) _ _ = _
  rw [ofBits_neg_inf_f32]
  rfl

/-- The kernel's maximum of the history is the reference's. -/
theorem pay8_eq (h : Vec Ideal S16 .f32) (hc : S16.ShapeCasts S1x16) :
    Cert.KernelIdeal.Gen.k0_pay8 (shapeCast S1x16 h hc) (ix2 0 0) = Cert.ReferenceIdeal.Hand.topOf h ix0 := by
  rw [topOf_eq]
  have e : Cert.KernelIdeal.Gen.k0_pay8 (shapeCast S1x16 h hc) (ix2 0 0)
      = (Finset.univ : Finset (Fin 16)).fold max (Ideal.ofBits .f32 0xFF800000#32)
          fun k => shapeCast S1x16 (shapeCast S1x16 h hc) Cert.KernelIdeal.Gen.shapeCasts_S1x16_S1x16 (ix2 0 k) :=
    (shapeCast_a_a1_apply _ Cert.KernelIdeal.Gen.shapeCasts_S1_S1x1 0 0).trans
      (rowMax _ _ Cert.KernelIdeal.Gen.reduces_S1x16_S1 (.inl rfl) rfl 0)
  rw [e, ofBits_neg_inf_f32, shapeCast_self]
  congr 1
  funext k
  exact shapeCast_a_1a_apply h hc _ k

/-! ## The magnitudes -/

/-- The magnitude of an entry. -/
def mag (x : EReal) : EReal := max x (-x)

theorem mag_nonneg (x : EReal) : 0 ≤ mag x := by
  rcases le_total 0 x with h | h
  · exact le_max_of_le_left h
  · exact le_max_of_le_right (by rw [EReal.le_neg]; simpa using h)

/-- One strip: the new running block is bounded by `z` where the old one and the strip's magnitudes are. -/
theorem pay4_le (v : Vec Ideal S512x128 .bf16) (acc : Vec Ideal S16x128 .bf16) (i : Fin 16) (j : Fin 128) (z : EReal) :
    (Cert.KernelIdeal.Gen.k0_pay4 v acc (ix2 i j) : EReal) ≤ z
      ↔ acc (ix2 i j) ≤ z ∧ ∀ k : Fin 32, mag (v (ix2 ⟨16 * k.val + i.val, by omega⟩ j)) ≤ z := by
  have e' : (Cert.KernelIdeal.Gen.k0_pay4 v acc (ix2 i j) : EReal)
      = max (acc (ix2 i j)) ((Finset.univ : Finset (Fin 32)).fold max (Ideal.ofBits .bf16 0xFF80#16)
          fun k => shapeCast S32x16x128 (absf (F := Ideal) (φ := .bf16) v) Cert.KernelIdeal.Gen.shapeCasts_S512x128_S32x16x128 (ix3 k i j)) := by
    have h1 := layerMax (shapeCast S32x16x128 (absf (F := Ideal) (φ := .bf16) v) Cert.KernelIdeal.Gen.shapeCasts_S512x128_S32x16x128) 0xFF80#16
      Cert.KernelIdeal.Gen.reduces_S32x16x128_S16x128 (.inr rfl) rfl i j
    rw [← h1]
    have h2 : Cert.KernelIdeal.Gen.k0_pay3 v = v := shapeCast_self v _
    unfold Cert.KernelIdeal.Gen.k0_pay4
    rw [h2]
    exact congrFun (shapeCast_self (maximumf acc (multiReduction .maximumf [0] S16x128
      (shapeCast S32x16x128 (absf (F := Ideal) (φ := .bf16) v) Cert.KernelIdeal.Gen.shapeCasts_S512x128_S32x16x128) 0xFF80#16
      Cert.KernelIdeal.Gen.reduces_S32x16x128_S16x128 (.inr rfl) rfl)) _) (ix2 i j)
  rw [e', max_le_iff, ofBits_neg_inf_bf16, Finset.fold_max_le]
  refine and_congr_right fun _ => ?_
  have e : ∀ k : Fin 32, shapeCast S32x16x128 (absf (F := Ideal) (φ := .bf16) v) Cert.KernelIdeal.Gen.shapeCasts_S512x128_S32x16x128 (ix3 k i j)
      = mag (v (ix2 ⟨16 * k.val + i.val, by omega⟩ j)) := fun k =>
    shapeCast_apply (absf (F := Ideal) (φ := .bf16) v) _ (ix3 k i j) (ix2 (⟨16 * k.val + i.val, by omega⟩ : Fin 512) j) (by
      rw [Shape.rowMajor_val_three, Shape.rowMajor_val_two]
      show (16 * k.val + i.val) * 128 + j.val = (k.val * 16 + i.val) * 128 + j.val
      ring)
  constructor
  · rintro ⟨_, h⟩ k
    rw [← e k]
    exact h k (Finset.mem_univ _)
  · intro h
    refine ⟨bot_le, fun k _ => ?_⟩
    exact (e k).trans_le (h k)

/-- A block's strips: after `n` of them the running block is bounded by `z` where it was before and the strips'
    magnitudes are. -/
theorem accFold_le (x : Vec Ideal S512x6912 .bf16) (acc : Vec Ideal S16x128 .bf16) (i : Fin 16) (j : Fin 128) (z : EReal) (n : ℕ) :
    Cert.KernelIdeal.Hand.accFold x acc n (ix2 i j) ≤ z
      ↔ acc (ix2 i j) ≤ z ∧ ∀ k < n, ∀ r : Fin 32, mag (Cert.KernelIdeal.Hand.strip x k (ix2 ⟨16 * r.val + i.val, by omega⟩ j)) ≤ z := by
  induction n with
  | zero => exact ⟨fun h => ⟨h, fun k hk => absurd hk (Nat.not_lt_zero _)⟩, fun h => h.1⟩
  | succ n ih =>
    show (Cert.KernelIdeal.Gen.k0_pay4 (F := Ideal) (Cert.KernelIdeal.Hand.strip x n) (Cert.KernelIdeal.Hand.accFold x acc n) (ix2 i j) : EReal) ≤ z ↔ _
    rw [pay4_le, ih]
    constructor
    · rintro ⟨⟨h, h'⟩, hn⟩
      refine ⟨h, fun k hk => ?_⟩
      rcases Nat.lt_succ_iff_lt_or_eq.mp hk with hk | rfl
      · exact h' k hk
      · exact hn
    · rintro ⟨h, h'⟩
      exact ⟨⟨h, fun k hk => h' k (Nat.lt_succ_of_lt hk)⟩, h' n (Nat.lt_succ_self n)⟩

section

open Cert.KernelIdeal Cert.KernelIdeal.Gen Cert.KernelIdeal.Hand

variable (m : (ℓ : Loc nD τ sig) → Buf (Elt Ideal) ℓ)

/-- The running block after `n` grid points is bounded by `z` where zero is and the magnitudes of the first `n` row blocks,
    at the rows and columns that fall on its entry, are. -/
theorem accOn_le (c : Dev nD) (i : Fin 16) (j : Fin 128) (z : EReal) (n : ℕ) (hn : n ≤ 62) :
    accOn m c n (ix2 i j) ≤ z
      ↔ 0 ≤ z ∧ ∀ t, ∀ ht : t < n, ∀ k, ∀ hk : k < 54, ∀ r : Fin 32,
          mag (xAll m c (ix2 ⟨512 * t + (16 * r.val + i.val), by omega⟩ ⟨128 * k + j.val, by omega⟩)) ≤ z := by
  induction n with
  | zero =>
    have e : accOn m c 0 (ix2 i j) = (0 : EReal) := ofBits_zero_bf16
    rw [e]
    exact ⟨fun h => ⟨h, fun t ht => absurd ht (Nat.not_lt_zero _)⟩, fun h => h.1⟩
  | succ n ih =>
    show accFold (rows m c n) (accOn m c n) 54 (ix2 i j) ≤ z ↔ _
    rw [accFold_le, ih (by omega)]
    have e : ∀ k, ∀ hk : k < 54, ∀ r : Fin 32, strip (rows m c n) k (ix2 ⟨16 * r.val + i.val, by omega⟩ j)
        = xAll m c (ix2 ⟨512 * n + (16 * r.val + i.val), by omega⟩ ⟨128 * k + j.val, by omega⟩) := fun k hk r => by
      have hj : j.val < 128 := j.isLt
      unfold strip
      rw [rows_apply m c n (by omega) _ (by show 512 * n + (16 * r.val + i.val) < 31744; omega)]
      congr 2
      apply Fin.ext
      show (128 * k + j.val) % 6912 = 128 * k + j.val
      omega
    constructor
    · rintro ⟨⟨h, h'⟩, hk'⟩
      refine ⟨h, fun t ht k hk r => ?_⟩
      rcases Nat.lt_succ_iff_lt_or_eq.mp ht with ht | rfl
      · exact h' t ht k hk r
      · rw [← e k hk r]; exact hk' k hk r
    · rintro ⟨h, h'⟩
      refine ⟨⟨h, fun t ht => h' t (Nat.lt_succ_of_lt ht)⟩, fun k hk r => ?_⟩
      rw [e k hk r]
      exact h' n (Nat.lt_succ_self n) k hk r

/-- The last reduction: bounded by `z` where the whole running block is. -/
theorem pay7_le (acc : Vec Ideal S16x128 .bf16) (z : EReal) :
    k0_pay7 acc (ix2 0 0) ≤ z ↔ ∀ i : Fin 16, ∀ j : Fin 128, acc (ix2 i j) ≤ z := by
  have e : ∀ j : Fin 128, shapeCast S1x128 (multiReduction .maximumf [0] S128 (extf .f32 acc bitsLt_bf16_f32) 0xFF800000#32
      reduces_S16x128_S128 (.inl rfl) rfl) shapeCasts_S128_S1x128 (ix2 0 j)
      = (Finset.univ : Finset (Fin 16)).fold max (Ideal.ofBits .f32 0xFF800000#32) fun i => (acc (ix2 i j) : EReal) := fun j =>
    (shapeCast_a_1a_apply _ _ _ j).trans (colMax (extf .f32 acc bitsLt_bf16_f32) _ reduces_S16x128_S128 (.inl rfl) rfl j)
  have e' : (k0_pay7 acc (ix2 0 0) : EReal)
      = (Finset.univ : Finset (Fin 128)).fold max (Ideal.ofBits .f32 0xFF800000#32)
          fun j => shapeCast S1x128 (multiReduction .maximumf [0] S128 (extf .f32 acc bitsLt_bf16_f32) 0xFF800000#32
      reduces_S16x128_S128 (.inl rfl) rfl) shapeCasts_S128_S1x128 (ix2 0 j) :=
    (shapeCast_a_a1_apply _ shapeCasts_S1_S1x1 0 0).trans (rowMax _ _ reduces_S1x128_S1 (.inl rfl) rfl 0)
  rw [ofBits_neg_inf_f32] at e e'
  rw [e', Finset.fold_max_le]
  constructor
  · rintro ⟨_, h⟩ i j
    have hj := (e j).symm.trans_le (h j (Finset.mem_univ _))
    rw [Finset.fold_max_le] at hj
    exact hj.2 i (Finset.mem_univ _)
  · intro h
    refine ⟨bot_le, fun j _ => (e j).trans_le ?_⟩
    rw [Finset.fold_max_le]
    exact ⟨bot_le, fun i _ => h i j⟩

/-- The kernel's largest magnitude is bounded by `z` where every entry's magnitude is. -/
theorem amax_le (c : Dev nD) (z : EReal) :
    k0_pay7 (accOn m c 62) (ix2 0 0) ≤ z ↔ ∀ (a : Fin 31744) (b : Fin 6912), mag (xAll m c (ix2 a b)) ≤ z := by
  rw [pay7_le]
  constructor
  · intro h a b
    have ha := a.isLt
    have hb := b.isLt
    have h1 := ((accOn_le m c ⟨a.val % 16, by omega⟩ ⟨b.val % 128, by omega⟩ z 62 le_rfl).mp (h _ _)).2
      (a.val / 512) (by omega) (b.val / 128) (by omega) ⟨a.val % 512 / 16, by omega⟩
    have ea : (⟨512 * (a.val / 512) + (16 * (a.val % 512 / 16) + a.val % 16), by omega⟩ : Fin 31744) = a := Fin.ext (by
      show 512 * (a.val / 512) + (16 * (a.val % 512 / 16) + a.val % 16) = a.val; omega)
    have eb : (⟨128 * (b.val / 128) + b.val % 128, by omega⟩ : Fin 6912) = b := Fin.ext (by
      show 128 * (b.val / 128) + b.val % 128 = b.val; omega)
    dsimp only at h1
    rw [ea, eb] at h1
    exact h1
  · intro h i j
    rw [accOn_le m c i j z 62 le_rfl]
    exact ⟨(mag_nonneg _).trans (h ⟨0, by omega⟩ ⟨0, by omega⟩), fun t ht k hk r => h _ _⟩

end

/-- The reference's largest magnitude is bounded by `z` where every entry's magnitude is. -/
theorem amaxOf_le (x : Vec Ideal S31x1024x6912 .bf16) (z : EReal) :
    Cert.ReferenceIdeal.Hand.amaxOf x ix0 ≤ z ↔ ∀ (a : Fin 31744) (b : Fin 6912), mag (Cert.ReferenceIdeal.Hand.matOf x (ix2 a b)) ≤ z := by
  have : Subsingleton Cert.ReferenceIdeal.S_.Idx := ⟨fun a b => (eq_ix0 a).trans (eq_ix0 b).symm⟩
  have hm := allMax_le (Host.absf (Cert.ReferenceIdeal.Hand.matOf x)) (constant (F := Ideal) Cert.ReferenceIdeal.S_ .bf16 0xFF80#16)
    Cert.ReferenceIdeal.Gen.reducesTo_S31744x6912_S_d0_1 Cert.ReferenceIdeal.Gen.h_S_ ix0 z fun _ => ofBits_neg_inf_bf16
  have e : (Cert.ReferenceIdeal.Hand.amaxOf x ix0 : EReal) = Host.reduce (FloatOps.maximumf : Ideal .bf16 → Ideal .bf16 → Ideal .bf16)
      (Host.absf (Cert.ReferenceIdeal.Hand.matOf x)) (constant (F := Ideal) Cert.ReferenceIdeal.S_ .bf16 0xFF80#16)
      Cert.ReferenceIdeal.Gen.reducesTo_S31744x6912_S_d0_1 Cert.ReferenceIdeal.Gen.h_S_ ix0 := by
    unfold Cert.ReferenceIdeal.Hand.amaxOf
    rw [extf_apply]
  rw [e, hm]
  generalize Cert.ReferenceIdeal.Hand.matOf x = y
  constructor
  · intro h a b
    exact h (ix2 a b)
  · intro h i
    have hi : i = ix2 (i 0) (i 1) := eq_ix2 i
    rw [hi]
    exact h (i 0) (i 1)

end Cert.Equation
-- ==== Proof.Exponent.lean ====
/-
  The scale.  Both sides derive an exponent from the history's maximum `a`: with `n` the exponent field of `|a / 448|`, the
  exponent is `n − 126`, and `0` where `a` is zero, the field is `0` (below the normal range) or `255` (infinite).  The kernel
  finds `n` by bisection; the reference takes the least exponent whose power of two exceeds the number.  From there the
  kernel writes exponent fields and the reference takes saturated powers of two, which are the same numbers.
-/
module

public import proofs.«01_k».proof.Proof.Powers
public import proofs.«01_k».proof.Proof.Maxima

@[expose] public section

set_option maxRecDepth 16384

noncomputable section

namespace Cert.Equation

open Idealize.ShloMosaic hiding ix0 ix1 ix2 ix3 eq_ix2
open Idealize.ShloMosaic.TcCoe Idealize.SL.Sem
open Idealize.ShloMosaic.ValueIdx
open Cert.KernelIdeal (S1x16 S1x1 S16)

/-- The exponent field the scale is built from. -/
def fieldOf (a : EReal) (n : Nat) : Nat := if a = 0 ∨ n = 0 ∨ n = 255 then 126 else n

theorem fieldOf_pos {a : EReal} {n : Nat} : 1 ≤ fieldOf a n := by unfold fieldOf; split_ifs <;> omega
theorem fieldOf_le {a : EReal} {n : Nat} (h : n ≤ 255) : fieldOf a n ≤ 254 := by unfold fieldOf; split_ifs <;> omega

/-! ## The kernel's side -/

section
open Cert.KernelIdeal.Gen Cert.KernelIdeal.Hand

theorem shli_23 (x : BitVec 32) : IntOp.shli .vector x 23#32 = x <<< 23 := rfl

/-- One step of the kernel's search, on its one-entry vectors. -/
def vstep (r : FVec Ideal S1x1 .f32) (u : IVec S1x1 32) (s : BitVec 32) : IVec S1x1 32 :=
  select (cmpf .olt (absf r) (bitcastToFloat .f32 (shli (addi u (broadcast S1x1 s)) (broadcast S1x1 23#32)))) u
    (addi u (broadcast S1x1 s))

theorem vstep_apply (r : FVec Ideal S1x1 .f32) (u : IVec S1x1 32) (s : BitVec 32) :
    vstep r u s (ix2 0 0) = step (mag (r (ix2 0 0))) (u (ix2 0 0)) s := by
  show Scalar.select (Ideal.cmp .olt _ (Ideal.ofBits .f32 (IntOp.shli .vector (u (ix2 0 0) + s) 23#32))) _ _ = _
  rw [shli_23]
  rfl

/-- The first four steps. -/
theorem pay10_eq (h : Vec Ideal S1x16 .f32) : k0_pay10 h
    = vstep (k0_pay9 h) (vstep (k0_pay9 h) (vstep (k0_pay9 h) (vstep (k0_pay9 h) (broadcast S1x1 0#32) 128#32) 64#32) 32#32) 16#32 := rfl

/-- The exponent, from the last field found. -/
def vexp (a : FVec Ideal S1x1 .f32) (n : IVec S1x1 32) : IVec S1x1 32 :=
  select (cmpf .oeq a (broadcast S1x1 (Scalar.ofBits .f32 0x00000000#32))) (broadcast S1x1 0#32)
    (select (ori (cmpi .eq n (broadcast S1x1 0#32)) (cmpi .eq n (broadcast S1x1 255#32))) (broadcast S1x1 0#32)
      (subi n (broadcast S1x1 126#32)))

/-- The last four steps, and the exponent from the field they end at. -/
theorem pay13_eq (a r : FVec Ideal S1x1 .f32) (u : IVec S1x1 32) :
    k0_pay13 a r u (addi u (broadcast S1x1 8#32)) (bitcastToFloat .f32 (shli (addi u (broadcast S1x1 8#32)) (broadcast S1x1 23#32)))
      = vexp a (vstep r (vstep r (vstep r (vstep r u 8#32) 4#32) 2#32) 1#32) := rfl

/-- The kernel's exponent, as a word. -/
theorem expOf_apply (h : Vec Ideal S1x16 .f32) {n : Nat} (hn : IsField (mag (k0_pay9 h (ix2 0 0))) n) :
    expOf h (ix2 0 0) = BitVec.ofNat 32 (fieldOf (k0_pay8 h (ix2 0 0)) n) - 126#32 := by
  have e : expOf h = vexp (k0_pay8 h) (vstep (k0_pay9 h) (vstep (k0_pay9 h) (vstep (k0_pay9 h) (vstep (k0_pay9 h) (k0_pay10 h) 8#32) 4#32) 2#32) 1#32) :=
    pay13_eq _ _ _
  have es : vstep (k0_pay9 h) (vstep (k0_pay9 h) (vstep (k0_pay9 h) (vstep (k0_pay9 h) (k0_pay10 h) 8#32) 4#32) 2#32) 1#32 (ix2 0 0)
      = BitVec.ofNat 32 n := by
    rw [pay10_eq]
    simp only [vstep_apply]
    exact search_eq hn
  rw [e]
  show Scalar.select (BitVec.ofBool (decide (k0_pay8 h (ix2 0 0) = Ideal.ofBits .f32 0x00000000#32))) 0#32
    (Scalar.select (IntOp.ori (IntOp.cmpi .eq (vstep _ _ _ (ix2 0 0)) 0#32) (IntOp.cmpi .eq (vstep _ _ _ (ix2 0 0)) 255#32)) 0#32
      (IntOp.subi (vstep _ _ _ (ix2 0 0)) 126#32)) = _
  rw [es, ofBits_zero_f32]
  have hd : ∀ n < 256, Scalar.select (IntOp.ori (IntOp.cmpi .eq (BitVec.ofNat 32 n) 0#32) (IntOp.cmpi .eq (BitVec.ofNat 32 n) 255#32)) 0#32
      (IntOp.subi (BitVec.ofNat 32 n) 126#32) = BitVec.ofNat 32 (if n = 0 ∨ n = 255 then 126 else n) - 126#32 := by decide +kernel
  rw [hd n (by have := hn.le255; omega)]
  unfold fieldOf
  by_cases ha : k0_pay8 h (ix2 0 0) = (0 : EReal)
  · rw [decide_eq_true ha, if_pos (Or.inl ha)]; rfl
  · rw [decide_eq_false ha]
    show BitVec.ofNat 32 _ - 126#32 = _
    congr 3
    exact propext ⟨fun h => Or.inr h, fun h => h.resolve_left ha⟩

/-- The number the kernel writes from the word `ofNat k − 126` as its scale. -/
theorem scaleOf_apply (h : Vec Ideal S1x16 .f32) {k : Nat} (hk : k ≤ 254) (he : expOf h (ix2 0 0) = BitVec.ofNat 32 k - 126#32) :
    scaleOf h (ix2 0 0) = pw (k + 1) := by
  show Ideal.ofBits .f32 (IntOp.shli .vector (IntOp.minsi 255#32 (IntOp.maxsi 0#32 (IntOp.addi (expOf h (ix2 0 0)) 127#32))) 23#32) = _
  have hd : ∀ k < 255, IntOp.minsi 255#32 (IntOp.maxsi 0#32 (IntOp.addi (BitVec.ofNat 32 k - 126#32) 127#32)) = BitVec.ofNat 32 (k + 1) := by
    decide +kernel
  rw [he, hd k (by omega), shli_23]
  have e : (BitVec.ofNat 32 (k + 1)).toNat = k + 1 := by rw [BitVec.toNat_ofNat]; omega
  rw [ofBits_shift _ (by omega), e]

/-- The number the kernel multiplies by. -/
theorem invOf_apply (h : IVec S1x1 32) {k : Nat} (hk : k ≤ 254) (he : h (ix2 0 0) = BitVec.ofNat 32 k - 126#32) :
    (invOf h (ix2 0 0) : Ideal .f32) = pw (253 - k) := by
  show Ideal.ofBits .f32 (IntOp.shli .vector (IntOp.minsi 255#32 (IntOp.maxsi 0#32 (IntOp.addi (IntOp.subi 0#32 (h (ix2 0 0))) 127#32))) 23#32) = _
  have hd : ∀ k < 255, IntOp.minsi 255#32 (IntOp.maxsi 0#32 (IntOp.addi (IntOp.subi 0#32 (BitVec.ofNat 32 k - 126#32)) 127#32))
      = BitVec.ofNat 32 (253 - k) := by
    decide +kernel
  rw [he, hd k (by omega), shli_23]
  have e : (BitVec.ofNat 32 (253 - k)).toNat = 253 - k := by rw [BitVec.toNat_ofNat]; omega
  rw [ofBits_shift _ (by omega), e]

end

/-! ## The reference's side -/

section
open Cert.ReferenceIdeal (S_ S253)
open Cert.ReferenceIdeal.Hand

theorem bits_two : Ideal.ofBits .f32 0x40000000#32 = ((2 : ℝ) : EReal) := by
  simp [Ideal.ofBits, Ideal.ieee, -EReal.coe_mul]; norm_num
theorem bits_n125 : Ideal.ofBits .f32 0xC2FA0000#32 = ((-125 : ℝ) : EReal) := by
  simp [Ideal.ofBits, Ideal.ieee, -EReal.coe_mul]; norm_num
theorem bits_n126 : Ideal.ofBits .f32 0xC2FC0000#32 = ((-126 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_127 : Ideal.ofBits .f32 0x42FE0000#32 = ((127 : ℝ) : EReal) := by
  simp [Ideal.ofBits, Ideal.ieee, -EReal.coe_mul]; norm_num
theorem bits_top : Ideal.ofBits .f32 0x7F800000#32 = ⊤ := by simp [Ideal.ofBits, Ideal.ieee]

/-- Two to an integer power. -/
theorem pow_two_int (z : ℤ) : Ideal.pow ((2 : ℝ) : EReal) ((z : ℝ) : EReal) = (((2 : ℝ) ^ z : ℝ) : EReal) := by
  rw [Ideal.pow_coe_coe]
  congr 1
  exact Real.rpow_intCast 2 z

/-- The saturated power of two of exponent `j − 127` is `pw j`, zero below. -/
theorem twoTo_apply (e : Vec Ideal S_ .f32) (j : ℤ) (h0 : -1 ≤ j) (h1 : j ≤ 255) (he : e ix0 = (((j - 127 : ℤ) : ℝ) : EReal)) :
    twoTo e ix0 = pw j.toNat := by
  show Scalar.select (BitVec.ofBool (decide (Ideal.ofBits .f32 0x42FE0000#32 < e ix0))) (Ideal.ofBits .f32 0x7F800000#32)
    (Scalar.select (BitVec.ofBool (decide (e ix0 < Ideal.ofBits .f32 0xC2FC0000#32))) (Ideal.ofBits .f32 0x00000000#32)
      (Ideal.pow (Ideal.ofBits .f32 0x40000000#32) (e ix0))) = _
  rw [bits_127, bits_n126, bits_two, bits_top, ofBits_zero_f32, he, pow_two_int]
  have d1 : ((127 : ℝ) : EReal) < (((j - 127 : ℤ) : ℝ) : EReal) ↔ 254 < j := by
    rw [EReal.coe_lt_coe_iff]
    constructor
    · intro h
      have : (127 : ℤ) < j - 127 := by exact_mod_cast h
      omega
    · intro h
      have : (127 : ℤ) < j - 127 := by omega
      exact_mod_cast this
  have d2 : (((j - 127 : ℤ) : ℝ) : EReal) < ((-126 : ℝ) : EReal) ↔ j < 1 := by
    rw [EReal.coe_lt_coe_iff]
    constructor
    · intro h
      have : j - 127 < (-126 : ℤ) := by exact_mod_cast h
      omega
    · intro h
      have : j - 127 < (-126 : ℤ) := by omega
      exact_mod_cast this
  by_cases c1 : 254 < j
  · rw [decide_eq_true (d1.mpr c1)]
    have : j.toNat = 255 := by omega
    rw [this, pw_top]; rfl
  · rw [decide_eq_false (fun h => c1 (d1.mp h))]
    show Scalar.select (BitVec.ofBool (decide _)) _ _ = _
    by_cases c2 : j < 1
    · rw [decide_eq_true (d2.mpr c2)]
      have : j.toNat = 0 := by omega
      rw [this, pw_zero]; rfl
    · rw [decide_eq_false (fun h => c2 (d2.mp h))]
      show (((2 : ℝ) ^ (j - 127) : ℝ) : EReal) = _
      rw [pw_mid (by omega) (by omega), Int.toNat_of_nonneg (by omega)]

/-- The list of exponents at its `i`-th place. -/
theorem exponents_apply (i : Fin 253) : (exponents (F := Ideal)) (ix1 i) = ((((i.val : ℤ) - 125 : ℤ) : ℝ) : EReal) := by
  show Ideal.ofBits .f32 0xC2FA0000#32 + (((BitVec.ofNat 32 i.val).toInt : ℝ) : EReal) = _
  have hi := i.isLt
  have e : (BitVec.ofNat 32 i.val).toInt = i.val := by
    rw [BitVec.toInt_eq_toNat_cond, BitVec.toNat_ofNat]
    rw [if_pos (by omega)]
    omega
  rw [bits_n125, e, ← EReal.coe_add]
  congr 1
  push_cast
  ring

/-- The reference's least exponent, for a number whose exponent field is neither 0 nor 255. -/
theorem leastOf_apply (r : Vec Ideal S_ .f32) {n : Nat} (hn : IsField (mag (r ix0)) n) (h0 : n ≠ 0) (h1 : n ≠ 255) :
    leastOf r ix0 = ((((n : ℤ) - 126 : ℤ) : ℝ) : EReal) := by
  have hle := hn.le255
  unfold leastOf
  rw [Host.reduce_eq_fold, Shape.ReducesTo.fold_fiber_r1_a0]
  show Finset.fold min (Ideal.ofBits .f32 0x7F800000#32) _ _ = _
  rw [bits_top]
  have hf : ∀ i : Fin 253, ((select (cmpf .olt (broadcastInDim S253 ![] Cert.ReferenceIdeal.Gen.bcast_S_S253 (Host.absf (F := Ideal) (φ := .f32) r))
        (Host.powf (broadcastInDim S253 ![] Cert.ReferenceIdeal.Gen.bcast_S_S253 (constant (F := Ideal) S_ .f32 0x40000000#32)) (exponents (F := Ideal))))
      (exponents (F := Ideal)) (broadcastInDim S253 ![] Cert.ReferenceIdeal.Gen.bcast_S_S253 (constant (F := Ideal) S_ .f32 0x43000000#32)) : Vec Ideal S253 .f32) (ix1 i) : EReal)
      = if n < i.val + 2 then ((((i.val : ℤ) - 125 : ℤ) : ℝ) : EReal) else ((128 : ℝ) : EReal) := fun i => by
    have hi := i.isLt
    have er : (broadcastInDim S253 ![] Cert.ReferenceIdeal.Gen.bcast_S_S253 (Host.absf (F := Ideal) (φ := .f32) r) (ix1 i) : EReal) = mag (r ix0) :=
      congrArg (Host.absf (F := Ideal) (φ := .f32) r) (eq_ix0 _)
    show Scalar.select (BitVec.ofBool (decide ((broadcastInDim S253 ![] Cert.ReferenceIdeal.Gen.bcast_S_S253 (Host.absf (F := Ideal) (φ := .f32) r) (ix1 i) : EReal)
      < Ideal.pow (Ideal.ofBits .f32 0x40000000#32) (exponents (F := Ideal) (ix1 i))))) (exponents (F := Ideal) (ix1 i)) (Ideal.ofBits .f32 0x43000000#32) = _
    rw [er, bits_two, bits_128, exponents_apply, pow_two_int]
    have ep : (((2 : ℝ) ^ ((i.val : ℤ) - 125) : ℝ) : EReal) = pw (i.val + 2) := by
      rw [pw_mid (by omega) (by omega)]
      congr 2
      push_cast
      ring
    rw [ep]
    by_cases c : n < i.val + 2
    · rw [if_pos c, decide_eq_true ((hn.lt_iff _ (by omega)).mpr c)]; rfl
    · rw [if_neg c, decide_eq_false (fun h => c ((hn.lt_iff _ (by omega)).mp h))]; rfl
  apply le_antisymm
  · rw [Finset.fold_min_le]
    right
    by_cases h254 : n = 254
    · refine ⟨⟨0, by omega⟩, Finset.mem_univ _, ?_⟩
      refine (hf _).trans_le ?_
      rw [if_neg (by dsimp only; omega), EReal.coe_le_coe_iff, h254]
      norm_num
    · refine ⟨⟨n - 1, by omega⟩, Finset.mem_univ _, ?_⟩
      refine (hf _).trans_le ?_
      rw [if_pos (by dsimp only; omega), EReal.coe_le_coe_iff]
      have : (((n - 1 : ℕ) : ℤ) - 125) = (n : ℤ) - 126 := by omega
      dsimp only
      rw [this]
  · rw [Finset.le_fold_min]
    refine ⟨le_top, fun i _ => ?_⟩
    refine le_of_le_of_eq ?_ (hf i).symm
    have hi := i.isLt
    split_ifs with c
    · rw [EReal.coe_le_coe_iff]
      have : (n : ℤ) - 126 ≤ (i.val : ℤ) - 125 := by omega
      exact_mod_cast this
    · rw [EReal.coe_le_coe_iff]
      have : (n : ℤ) - 126 ≤ 128 := by omega
      exact_mod_cast this

/-- The reference's exponent. -/
theorem eOf_apply (h : Vec Ideal S16 .f32) {n : Nat} (hn : IsField (mag (ratioOf h ix0)) n) :
    eOf h ix0 = ((((fieldOf (topOf h ix0) n : ℤ) - 126 : ℤ) : ℝ) : EReal) := by
  show Scalar.select (BitVec.ofBool (decide (topOf h ix0 = Ideal.ofBits .f32 0x00000000#32))) (Ideal.ofBits .f32 0x00000000#32)
    (Scalar.select (BitVec.ofBool (decide (mag (ratioOf h ix0) = Ideal.ofBits .f32 0x7F800000#32))
        ||| BitVec.ofBool (decide (mag (ratioOf h ix0) < Ideal.pow (Ideal.ofBits .f32 0x40000000#32) (Ideal.ofBits .f32 0xC2FC0000#32))))
      (Ideal.ofBits .f32 0x00000000#32) (leastOf (ratioOf h) ix0)) = _
  have ep : Ideal.pow (Ideal.ofBits .f32 0x40000000#32) (Ideal.ofBits .f32 0xC2FC0000#32) = pw 1 := by
    rw [bits_two, bits_n126, show (-126 : ℝ) = ((-126 : ℤ) : ℝ) by norm_num, pow_two_int, pw_mid le_rfl (by omega)]
    norm_num
  rw [ep, bits_top, ofBits_zero_f32]
  have e1 : decide (mag (ratioOf h ix0) = ⊤) = decide (n = 255) := decide_eq_decide.mpr hn.eq_top_iff
  have e2 : decide (mag (ratioOf h ix0) < pw 1) = decide (n = 0) := decide_eq_decide.mpr ((hn.lt_iff 1 (by omega)).trans (by omega))
  rw [e1, e2]
  have z : ((((126 : ℕ) : ℤ) - 126 : ℤ) : ℝ) = 0 := by norm_num
  unfold fieldOf
  by_cases ha : topOf h ix0 = (0 : EReal)
  · rw [decide_eq_true ha, if_pos (Or.inl ha), z]; rfl
  rw [decide_eq_false ha]
  by_cases h0 : n = 0
  · rw [if_pos (Or.inr (Or.inl h0)), z]; subst h0; rfl
  by_cases h1 : n = 255
  · rw [if_pos (Or.inr (Or.inr h1)), z]; subst h1; rfl
  rw [if_neg (by tauto), decide_eq_false h0, decide_eq_false h1]
  exact leastOf_apply (ratioOf h) hn h0 h1

end

/-! ## The two sides together -/

section
open Cert.KernelIdeal.Hand Cert.ReferenceIdeal.Hand

/-- The kernel's scale is the reference's, and so is the number each multiplies the entries by. -/
theorem scale_eq (h : Vec Ideal S16 .f32) (hc : S16.ShapeCasts S1x16) :
    scaleOf (shapeCast S1x16 h hc) (ix2 0 0) = twoTo (eOf h) ix0
      ∧ (invOf (expOf (shapeCast S1x16 h hc)) (ix2 0 0) : Ideal .f32) = twoTo (Host.negf (eOf h)) ix0 := by
  obtain ⟨n, hn⟩ := field_exists (mag_nonneg (ratioOf h ix0))
  have hk : fieldOf (topOf h ix0) n ≤ 254 := fieldOf_le hn.le255
  have hk' : 1 ≤ fieldOf (topOf h ix0) n := fieldOf_pos
  have er : Cert.KernelIdeal.Gen.k0_pay9 (shapeCast S1x16 h hc) (ix2 0 0) = ratioOf h ix0 := by
    show (Cert.KernelIdeal.Gen.k0_pay8 (shapeCast S1x16 h hc) (ix2 0 0) : EReal) * _ = _
    rw [pay8_eq]
    rfl
  have ek : expOf (shapeCast S1x16 h hc) (ix2 0 0) = BitVec.ofNat 32 (fieldOf (topOf h ix0) n) - 126#32 := by
    rw [expOf_apply _ (n := n) (by rw [er]; exact hn), pay8_eq]
  have ee := eOf_apply h hn
  constructor
  · rw [scaleOf_apply _ hk ek, twoTo_apply (eOf h) ((fieldOf (topOf h ix0) n : ℤ) + 1) (by omega) (by omega) (by rw [ee]; congr 2; ring)]
    congr 1
  · rw [invOf_apply _ hk ek, twoTo_apply (Host.negf (eOf h)) (253 - (fieldOf (topOf h ix0) n : ℤ)) (by omega) (by omega) (by
      show -(eOf h ix0) = _
      rw [ee, ← EReal.coe_neg]
      congr 1
      push_cast
      ring)]
    congr 1
    omega

end

end Cert.Equation
-- ==== Proof.RefArrays.lean ====
/-
  What the reference's result arrays hold after its run, as functions of the two argument arrays.
-/
module

public import proofs.«01_k».proof.Proof.RefHost
public import Idealize.ShloMosaic.Lib.Pipeline.Value
public import Idealize.ShloMosaic.Lib.StableHlo.RunRead
public import Idealize.ShloMosaic.Lib.ValueIdx

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem
open Idealize.ShloMosaic.ValueIdx
open Idealize.ShloMosaic.Pipeline (Dat)

variable {F : FTy → Type} [FloatOps F]

set_option maxHeartbeats 1000000

variable (m : (ℓ : Loc nD τ sig) → Buf (Elt F) ℓ) (ρ : Dev nD → PrngReg)

/-! ## The region's blocks -/

theorem iblk0_eq (c : Dev nD) (t : Fin cfg0.N) : iblk m c 0 t = matOf (xIn m c) := by
  rw [← V_main_v0]
  unfold iblk
  have hz' : (fun a => win0_0.index t a * main_v0.ty.shape.size a) = fun _ => 0 := funext fun a => by
    have h0 : win0_0.index t a = 0 := by fin_cases a <;> rfl
    show win0_0.index t a * _ = 0
    rw [h0, Nat.zero_mul]
  exact Memref.read_access_unit_zero (Elt F) main_v0 hz' (fun a => by rw [congrFun hz' a]; exact (Nat.zero_add _).le) (V m c main_v0)

theorem iblk1_eq (c : Dev nD) (t : Fin cfg0.N) :
    iblk m c 1 t = shapeCast S1x1 (twoTo (Host.negf (eOf (hIn m c)))) shapeCasts_S_S1x1 := by
  rw [← V_main_v36]
  unfold iblk
  have hz' : (fun a => win0_1.index t a * main_v36.ty.shape.size a) = fun _ => 0 := funext fun a => by
    have h0 : win0_1.index t a = 0 := by fin_cases a <;> rfl
    show win0_1.index t a * _ = 0
    rw [h0, Nat.zero_mul]
  exact Memref.read_access_unit_zero (Elt F) main_v36 hz' (fun a => by rw [congrFun hz' a]; exact (Nat.zero_add _).le) (V m c main_v36)

/-- One entry's code: the entry times the reciprocal `s`, clipped to ±448, in the eight-bit format. -/
def code (s : F .f32) (a : F .bf16) : F .fp8e4m3 :=
  FloatOps.truncf .fp8e4m3 bitsLt_fp8e4m3_f32 (FloatOps.minimumf (Scalar.ofBits .f32 0x43E00000#32)
    (FloatOps.maximumf (Scalar.ofBits .f32 0xC3E00000#32) (FloatOps.mulf (FloatOps.extf .f32 bitsLt_bf16_f32 a) s)))

/-- The codes by rows. -/
def qAll (c : Dev nD) : Vec F S31744x6912 .fp8e4m3 := fun y => code (twoTo (Host.negf (eOf (hIn m c))) ix0) (matOf (xIn m c) y)

/-- The codes by columns. -/
def qtAll (c : Dev nD) : Vec F S6912x31744 .fp8e4m3 := fun y => code (twoTo (Host.negf (eOf (hIn m c))) ix0) (matOf (xIn m c) (ix2 (y 1) (y 0)))

/-- The body loads its operands whole. -/
theorem ld0_eq (P0 : Vec F S31744x6912 .bf16) : View.ld P0 r0_0 = P0 := by
  funext y
  show P0 (r0_0.idx y) = P0 y
  congr 1
  funext a
  apply Fin.ext
  match a with
  | ⟨0, _⟩ => show 0 + 1 * (y 0).val = (y 0).val; omega
  | ⟨1, _⟩ => show 0 + 1 * (y 1).val = (y 1).val; omega

theorem ld1_eq (P1 : Vec F S1x1 .f32) : View.ld P1 r0_1 = P1 := by
  funext y
  show P1 (r0_1.idx y) = P1 y
  congr 1
  funext a
  apply Fin.ext
  match a with
  | ⟨0, _⟩ => show 0 + 1 * (y 0).val = (y 0).val; omega
  | ⟨1, _⟩ => show 0 + 1 * (y 1).val = (y 1).val; omega

/-- The body's first result, from the arrays it loads. -/
theorem out2_eq (P0 : Vec F S31744x6912 .bf16) (e : Vec F S_ .f32) :
    out0_2 P0 (shapeCast S1x1 e shapeCasts_S_S1x1) = fun y => code (e ix0) (P0 y) := by
  funext y
  unfold out0_2
  rw [ld0_eq, ld1_eq]
  refine (canon2_eq _ _ y).trans ?_
  have e0 : ix2_0 y = y := funext fun a => match a with | ⟨0, _⟩ => rfl | ⟨1, _⟩ => rfl
  have e1 : shapeCast S1x1 e shapeCasts_S_S1x1 (ix2_1 y) = e ix0 := congrArg e (eq_ix0 _)
  show code (shapeCast S1x1 e shapeCasts_S_S1x1 (ix2_1 y)) (P0 (ix2_0 y)) = _
  rw [e0, e1]

/-- The body's second result. -/
theorem out3_eq (P0 : Vec F S31744x6912 .bf16) (e : Vec F S_ .f32) :
    out0_3 P0 (shapeCast S1x1 e shapeCasts_S_S1x1) = fun y => code (e ix0) (P0 (ix2 (y 1) (y 0))) := by
  funext y
  unfold out0_3
  rw [ld0_eq, ld1_eq]
  refine (canon3_eq _ _ y).trans ?_
  have e0 : ix3_0 y = ix2 (y 1) (y 0) := funext fun a => match a with | ⟨0, _⟩ => rfl | ⟨1, _⟩ => rfl
  have e1 : shapeCast S1x1 e shapeCasts_S_S1x1 (ix3_1 y) = e ix0 := congrArg e (eq_ix0 _)
  show code (shapeCast S1x1 e shapeCasts_S_S1x1 (ix3_1 y)) (P0 (ix3_0 y)) = _
  rw [e0, e1]
  rfl

/-- The one block of a result is the whole array. -/
theorem cut2_eq (t : Fin cfg0.N) (G : Vec F S31744x6912 .fp8e4m3) :
    (cfg0.win 2).cut (grid0.coords t) G = ((cfg0.win 2).blk t).view.read (Elt F) (G : main_v37_0.ty.Contents (Elt F)) := by
  funext y
  rw [View.read_apply]
  show G _ = G _
  congr 1
  funext a
  apply Fin.ext
  match a with
  | ⟨0, _⟩ => show (y 0).val = 0 * 31744 + 1 * (y 0).val; omega
  | ⟨1, _⟩ => show (y 1).val = 0 * 6912 + 1 * (y 1).val; omega

theorem cut3_eq (t : Fin cfg0.N) (G : Vec F S6912x31744 .fp8e4m3) :
    (cfg0.win 3).cut (grid0.coords t) G = ((cfg0.win 3).blk t).view.read (Elt F) (G : main_v37_1.ty.Contents (Elt F)) := by
  funext y
  rw [View.read_apply]
  show G _ = G _
  congr 1
  funext a
  apply Fin.ext
  match a with
  | ⟨0, _⟩ => show (y 0).val = 0 * 6912 + 1 * (y 0).val; omega
  | ⟨1, _⟩ => show (y 1).val = 0 * 31744 + 1 * (y 1).val; omega

theorem flushed2_eq (c : Dev nD) (t : Fin cfg0.N) (hf : (cfg0.win 2).flush t = true) :
    (dats m 0 c).flushed 2 t = ((cfg0.win 2).blk t).view.read (Elt F) (qAll m c : Buf (Elt F) ((c : Thread nD τ).loc main_v37_0)) := by
  rw [flushed2, iblk0_eq, iblk1_eq, out2_eq]
  exact cut2_eq t (qAll m c)

theorem flushed3_eq (c : Dev nD) (t : Fin cfg0.N) (hf : (cfg0.win 3).flush t = true) :
    (dats m 0 c).flushed 3 t = ((cfg0.win 3).blk t).view.read (Elt F) (qtAll m c : Buf (Elt F) ((c : Thread nD τ).loc main_v37_1)) := by
  rw [flushed3, iblk0_eq, iblk1_eq, out3_eq]
  exact cut3_eq t (qtAll m c)

theorem final2 (c : Dev nD) : (dats m 0 c).arrAt 2 cfg0.N = (qAll m c : Buf (Elt F) ((c : Thread nD τ).loc main_v37_0)) :=
  (dats m 0 c).arrAt_eq_of_cover 2 _ (flushed2_eq m c) fun (i : main_v37_0.ty.Idx) => by
    have h0 : (i 0 : Nat) < 31744 := (i 0).isLt
    have h1 : (i 1 : Nat) < 6912 := (i 1).isLt
    have hlt : 0 < cfg0.N := by decide
    refine ⟨⟨0, hlt⟩, flush0_2 _, ?_⟩
    show i ∈ ((View.whole main_v37_0).slice (win0_2.rect ⟨0, hlt⟩)).set
    rw [View.set_slice_whole, Rect.mem_set_unit]
    intro a
    match a with
    | ⟨0, _⟩ => show 0 * 31744 ≤ (i 0 : Nat) ∧ (i 0 : Nat) < 0 * 31744 + 31744; omega
    | ⟨1, _⟩ => show 0 * 6912 ≤ (i 1 : Nat) ∧ (i 1 : Nat) < 0 * 6912 + 6912; omega

theorem final3 (c : Dev nD) : (dats m 0 c).arrAt 3 cfg0.N = (qtAll m c : Buf (Elt F) ((c : Thread nD τ).loc main_v37_1)) :=
  (dats m 0 c).arrAt_eq_of_cover 3 _ (flushed3_eq m c) fun (i : main_v37_1.ty.Idx) => by
    have h0 : (i 0 : Nat) < 6912 := (i 0).isLt
    have h1 : (i 1 : Nat) < 31744 := (i 1).isLt
    have hlt : 0 < cfg0.N := by decide
    refine ⟨⟨0, hlt⟩, flush0_3 _, ?_⟩
    show i ∈ ((View.whole main_v37_1).slice (win0_3.rect ⟨0, hlt⟩)).set
    rw [View.set_slice_whole, Rect.mem_set_unit]
    intro a
    match a with
    | ⟨0, _⟩ => show 0 * 6912 ≤ (i 0 : Nat) ∧ (i 0 : Nat) < 0 * 6912 + 6912; omega
    | ⟨1, _⟩ => show 0 * 31744 ≤ (i 1 : Nat) ∧ (i 1 : Nat) < 0 * 31744 + 31744; omega

/-- The run, with every result named and the arguments unchanged. -/
theorem run_values : θ_run defs (onTc (τ := τ) (main (F := F))) ⟨m, fun _ => 0, ρ⟩ fun r => ∀ c : Dev nD,
      r.2.mem ((c : Thread nD τ).loc main_v37_0) = qAll m c
      ∧ r.2.mem ((c : Thread nD τ).loc main_v37_1) = qtAll m c
      ∧ r.2.mem ((c : Thread nD τ).loc main_v29) = twoTo (eOf (hIn m c))
      ∧ r.2.mem ((c : Thread nD τ).loc main_v3) = amaxOf (xIn m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      (post3 m r h c).trans (final3 m c),
      ((h c).2 main_v29 (Pipeline.mem_restRefs_of main_v29 (by decide) (by decide))).trans (V_main_v29 m c),
      ((h c).2 main_v3 (Pipeline.mem_restRefs_of main_v3 (by decide) (by decide))).trans (V_main_v3 m c),
      kept_main_arg0 m r h c,
      kept_main_arg1 m r h c⟩)
    (run_main m ρ)

end Cert.ReferenceIdeal.Hand
-- ==== Proof.Equation.lean ====
/-
  The four result arrays of the kernel are the reference's, from the same arguments: the scale, the largest magnitude, and
  the codes by rows and by columns.
-/
module

public import proofs.«01_k».proof.Proof.Exponent
public import proofs.«01_k».proof.Proof.RefArrays

@[expose] public section

set_option maxRecDepth 16384

noncomputable section

namespace Cert.Equation

open Idealize.ShloMosaic hiding ix0 ix1 ix2 ix3 eq_ix2
open Idealize.ShloMosaic.TcCoe Idealize.SL.Sem
open Idealize.ShloMosaic.ValueIdx

/-- One code: both sides clamp the entry times the same number to ±448. -/
theorem code_eq (s : FVec Ideal Cert.KernelIdeal.S1x1 .f32) (t : Ideal .f32) (a : Ideal .bf16) (h : (s (ix2 0 0) : Ideal .f32) = t) :
    Cert.KernelIdeal.Hand.code s a = Cert.ReferenceIdeal.Hand.code t a := by
  subst h
  rfl

/-- One entry of a one-entry matrix read as a scalar. -/
theorem scalar_apply (x : Vec Ideal Cert.KernelIdeal.S1x1 .f32) (h : Cert.KernelIdeal.S1x1.ShapeCasts Cert.KernelIdeal.S_)
    (i : Cert.KernelIdeal.S_.Idx) : shapeCast Cert.KernelIdeal.S_ x h i = x (ix2 0 0) :=
  shapeCast_apply x h i (ix2 0 0) rfl

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The reference's tensor is the kernel's. -/
theorem mat_eq (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Hand.matOf (Cert.ReferenceIdeal.Hand.xIn m' c) = Cert.KernelIdeal.Hand.xAll m c := by
  unfold Cert.ReferenceIdeal.Hand.matOf Cert.ReferenceIdeal.Hand.xIn Cert.KernelIdeal.Hand.xAll
  exact congrArg (fun x => shapeCast Cert.KernelIdeal.S31744x6912 (s := Cert.KernelIdeal.S31x1024x6912) x _) h0

/-- The reference's history is the kernel's. -/
theorem hist_eq (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.KernelIdeal.Hand.hist m c = shapeCast Cert.KernelIdeal.S1x16 (Cert.ReferenceIdeal.Hand.hIn m' c) Cert.KernelIdeal.Gen.shapeCasts_S16_S1x16 := by
  rw [Cert.KernelIdeal.Hand.hist_eq]
  exact congrArg (fun x => shapeCast Cert.KernelIdeal.S1x16 (s := Cert.KernelIdeal.S16) x _) h1.symm

section
variable (c : Dev Cert.KernelIdeal.nD)
  (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))

include h1 in
/-- The number the entries are multiplied by. -/
theorem inv_eq : (Cert.KernelIdeal.Hand.invOf (Cert.KernelIdeal.Hand.expOf (Cert.KernelIdeal.Hand.hist m c)) (ix2 0 0) : Ideal .f32)
    = Cert.ReferenceIdeal.Hand.twoTo (Host.negf (Cert.ReferenceIdeal.Hand.eOf (Cert.ReferenceIdeal.Hand.hIn m' c))) ix0 := by
  rw [hist_eq m m' c h1]
  exact (scale_eq (Cert.ReferenceIdeal.Hand.hIn m' c) _).2

include h0 h1

/-- The codes by rows. -/
theorem q_eq : Cert.ReferenceIdeal.Hand.qAll m' c = Cert.KernelIdeal.Hand.qAll m c := by
  funext y
  unfold Cert.ReferenceIdeal.Hand.qAll Cert.KernelIdeal.Hand.qAll
  rw [mat_eq m m' c h0]
  exact (code_eq _ _ _ (inv_eq m m' c h1)).symm

/-- The codes by columns. -/
theorem qt_eq : Cert.ReferenceIdeal.Hand.qtAll m' c = Cert.KernelIdeal.Hand.qtAll m c := by
  funext y
  unfold Cert.ReferenceIdeal.Hand.qtAll Cert.KernelIdeal.Hand.qtAll
  rw [mat_eq m m' c h0]
  exact (code_eq _ _ _ (inv_eq m m' c h1)).symm

omit h0 in
/-- The scale. -/
theorem scaleAll_eq : Cert.ReferenceIdeal.Hand.twoTo (Cert.ReferenceIdeal.Hand.eOf (Cert.ReferenceIdeal.Hand.hIn m' c))
    = Cert.KernelIdeal.Hand.scaleAll m c := by
  funext i
  unfold Cert.KernelIdeal.Hand.scaleAll
  rw [eq_ix0 i, scalar_apply, hist_eq m m' c h1]
  exact (scale_eq (Cert.ReferenceIdeal.Hand.hIn m' c) _).1.symm

omit h1 in
/-- The largest magnitude. -/
theorem amaxAll_eq : Cert.ReferenceIdeal.Hand.amaxOf (Cert.ReferenceIdeal.Hand.xIn m' c) = Cert.KernelIdeal.Hand.amaxAll m c := by
  funext i
  unfold Cert.KernelIdeal.Hand.amaxAll
  rw [eq_ix0 i, scalar_apply]
  refine eq_of_forall_ge_iff (α := EReal) fun z => ?_
  rw [amaxOf_le, amax_le, mat_eq m m' c h0]

end

end Cert.Equation
-- ==== Proof.lean ====
/-
  The claims of this certificate, put together: the frame of each of the three programs, that nothing changed between the
  kernel as stated and as idealized, and that kernel and reference end with the same four results.
-/
module

public import proofs.«01_k».proof.Defs
public import proofs.«01_k».proof.Proof.KRun
public import proofs.«01_k».proof.Proof.Equation
public import proofs.«01_k».proof.Proof.Gen.ReferenceIdeal.Frame

@[expose] public section

noncomputable section

namespace Cert.Proof

open Idealize.ShloMosaic Idealize.SL.Sem

/-- Kernel and reference, from memories that agree on the arguments, end with the same four results. -/
theorem algebraic : Cert.algebraic_KernelIdeal_ReferenceIdeal := by
  intro m g m' g' _ h
  refine ⟨Cert.KernelIdeal.Hand.qAll m, Cert.KernelIdeal.Hand.qtAll m, Cert.KernelIdeal.Hand.scaleAll m,
    Cert.KernelIdeal.Hand.amaxAll m, Cert.KernelIdeal.Hand.run_values m g, ?_⟩
  refine (θ_run Cert.ReferenceIdeal.defs _ _).mono (fun r hr c => ?_) (Cert.ReferenceIdeal.Hand.run_values m' g')
  obtain ⟨r0, r1, r2, r3, r4, r5⟩ := hr c
  obtain ⟨h0, h1⟩ := h c
  exact ⟨r0.trans (Cert.Equation.q_eq m m' c h0 h1), r1.trans (Cert.Equation.qt_eq m m' c h0 h1),
    r2.trans (Cert.Equation.scaleAll_eq m m' c h1), r3.trans (Cert.Equation.amaxAll_eq m m' c h0), r4, r5⟩

theorem claim : Cert.Claim := ⟨Cert.Kernel.Gen.facts, Cert.KernelIdeal.Gen.facts, Cert.ReferenceIdeal.Gen.facts,
  fun m g _ => Cert.Kernel.Hand.frame_main m g, fun m g _ => Cert.KernelIdeal.Hand.frame_main m g,
  fun m g _ => Cert.ReferenceIdeal.Gen.frame m g, trivial, algebraic⟩

end Cert.Proof

end
